-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3E0293EE#32 (((Real.log 2)⁻¹ * (Real.sqrt 128)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x4096x2048 : Shape := ⟨3, ![1, 4096, 2048]⟩
abbrev S2048x2048 : Shape := ⟨2, ![2048, 2048]⟩
abbrev S2048 : Shape := ⟨1, ![2048]⟩
abbrev S_ : Shape := ⟨0, ![]⟩

class Facts : Prop where
  bcast_S_S1x4096x2048 : S_.BroadcastsInDim S1x4096x2048 (![] : Fin 0 → Fin S1x4096x2048.rank)
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S1x4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) : IVec S1x4096x2048 1 × IVec S2048x2048 1 × IVec S2048 1 × IVec S2048x2048 1 × IVec S2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  (main_v2, main_v5, main_v8, main_v11, main_v14)
-- ==== Kernel.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S3x2048 : Shape := ⟨2, ![3, 2048]⟩
abbrev S256x2048 : Shape := ⟨2, ![256, 2048]⟩
abbrev S3x256 : Shape := ⟨2, ![3, 256]⟩
abbrev S2048x256 : Shape := ⟨2, ![2048, 256]⟩
abbrev S1x256 : Shape := ⟨2, ![1, 256]⟩
abbrev S1024x256 : Shape := ⟨2, ![1024, 256]⟩
abbrev S4096x256 : Shape := ⟨2, ![4096, 256]⟩
abbrev S1024x2048 : Shape := ⟨2, ![1024, 2048]⟩
abbrev S1024x128 : Shape := ⟨2, ![1024, 128]⟩
abbrev S256x128 : Shape := ⟨2, ![256, 128]⟩
abbrev S256x256 : Shape := ⟨2, ![256, 256]⟩

abbrev nBuf : Space → Nat
  | .hbm => 20
  | .vmem => 28
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S4096x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S3x2048, .f32⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S1x2048, .f32⟩
  | .hbm, ⟨18, _⟩ => ⟨S4096x2048, .f32⟩
  | .hbm, ⟨19, _⟩ => ⟨S1x4096x2048, .f32⟩
  | .local _ .vmem, ⟨0, _⟩ => ⟨S2048x2048, .f32⟩
  | .local _ .vmem, ⟨1, _⟩ => ⟨S2048x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S3x256, .f32⟩
  | .local _ .vmem, ⟨9, _⟩ => ⟨S3x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1024x256, .bf16⟩
  | .local _ .vmem, ⟨17, _⟩ => ⟨S1024x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S2048x256, .f32⟩
  | .local _ .vmem, ⟨23, _⟩ => ⟨S2048x256, .f32⟩
  | .local _ .vmem, ⟨24, _⟩ => ⟨S1x2048, .f32⟩
  | .local _ .vmem, ⟨25, _⟩ => ⟨S1024x2048, .f32⟩
  | .local _ .vmem, ⟨26, _⟩ => ⟨S1024x2048, .f32⟩
  | .local _ .vmem, ⟨27, _⟩ => ⟨S1024x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 8], ![false, false]⟩

def k1_cond3 (i : grid1.Coords) : BitVec 1 :=
  let arg1 : BitVec 32 := BitVec.ofNat 32 (i 1).val
  let c7_i32 : BitVec 32 := 7#32
  let v376 : BitVec 1 := Scalar.cmpi .eq arg1 c7_i32
  let v377 : BitVec 32 := Scalar.extui v376
  let c0_i32_216 : BitVec 32 := 0#32
  let v378 : BitVec 1 := Scalar.cmpi .ne v377 c0_i32_216
  v378

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== KernelIdeal.lean ====
variable {F : FTy → Type} [FloatOps F] [Named F]
def κ : String → Option EReal := fun
  | "scale" => some (((Real.log 2)⁻¹ * (Real.sqrt 128)⁻¹ : ℝ) : EReal)
  | _ => none
-- ==== ReferenceIdeal.lean ====
abbrev S1x4096x2048 : Shape := ⟨3, ![1, 4096, 2048]⟩
abbrev S2048x2048 : Shape := ⟨2, ![2048, 2048]⟩
abbrev S2048 : Shape := ⟨1, ![2048]⟩
abbrev S1x1x2048 : Shape := ⟨3, ![1, 1, 2048]⟩
abbrev S1x4096x16x128 : Shape := ⟨4, ![1, 4096, 16, 128]⟩
abbrev S1x16x4096x128 : Shape := ⟨4, ![1, 16, 4096, 128]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S1x4096x2048, .f32⟩
  | .hbm, ⟨11, _⟩ => ⟨S1x1x2048, .f32⟩
  | .hbm, ⟨12, _⟩ => ⟨S1x4096x2048, .f32⟩
  | .hbm, ⟨13, _⟩ => ⟨S1x4096x2048, .f32⟩
  | .hbm, ⟨14, _⟩ => ⟨S1x4096x16x128, .f32⟩
  | .hbm, ⟨15, _⟩ => ⟨S1x16x4096x128, .f32⟩
  | .hbm, ⟨16, _⟩ => ⟨S2048x2048, .f32⟩
  | .hbm, ⟨17, _⟩ => ⟨S1x4096x2048, .f32⟩
  | .hbm, ⟨18, _⟩ => ⟨S1x1x2048, .f32⟩
  | .hbm, ⟨19, _⟩ => ⟨S1x4096x2048, .f32⟩
  | .hbm, ⟨20, _⟩ => ⟨S1x4096x2048, .f32⟩
  | .hbm, ⟨21, _⟩ => ⟨S1x4096x16x128, .f32⟩
  | .hbm, ⟨22, _⟩ => ⟨S1x16x4096x128, .f32⟩
  | .hbm, ⟨23, _⟩ => ⟨S2048x2048, .f32⟩
  | .hbm, ⟨24, _⟩ => ⟨S1x4096x2048, .f32⟩
  | .hbm, ⟨25, _⟩ => ⟨S1x1x2048, .f32⟩
  | .hbm, ⟨26, _⟩ => ⟨S1x4096x2048, .f32⟩
  | .hbm, ⟨27, _⟩ => ⟨S1x4096x2048, .f32⟩
  | .hbm, ⟨28, _⟩ => ⟨S1x4096x16x128, .f32⟩
  | .hbm, ⟨29, _⟩ => ⟨S1x16x4096x128, .f32⟩
  | .hbm, ⟨30, _⟩ => ⟨S1x16x4096x4096, .f32⟩
  | .hbm, ⟨31, _⟩ => ⟨S_, .f32⟩
  | .hbm, ⟨32, _⟩ => ⟨S_, .f32⟩
  | .hbm, ⟨33, _⟩ => ⟨S1x16x4096x4096, .f32⟩
  | .hbm, ⟨34, _⟩ => ⟨S1x16x4096x4096, .f32⟩
  | .hbm, ⟨35, _⟩ => ⟨S_, .f32⟩
  | .hbm, ⟨36, _⟩ => ⟨S1x16x4096, .f32⟩
  | .hbm, ⟨37, _⟩ => ⟨S_, .f32⟩
  | .hbm, ⟨38, _⟩ => ⟨S1x16x4096, .f32⟩
  | .hbm, ⟨39, _⟩ => ⟨S1x16x4096, .f32⟩
  | .hbm, ⟨40, _⟩ => ⟨S1x16x4096x1, .f32⟩
  | .hbm, ⟨41, _⟩ => ⟨S1x16x4096x4096, .f32⟩
  | .hbm, ⟨42, _⟩ => ⟨S1x16x4096x4096, .f32⟩
  | .hbm, ⟨43, _⟩ => ⟨S1x16x4096x4096, .f32⟩
  | .hbm, ⟨44, _⟩ => ⟨S_, .f32⟩
  | .hbm, ⟨45, _⟩ => ⟨S1x16x4096, .f32⟩
  | .hbm, ⟨46, _⟩ => ⟨S1x16x4096x1, .f32⟩
  | .hbm, ⟨47, _⟩ => ⟨S1x16x4096x4096, .f32⟩
  | .hbm, ⟨48, _⟩ => ⟨S1x16x4096x4096, .f32⟩
  | .hbm, ⟨49, _⟩ => ⟨S1x16x4096x128, .f32⟩
  | .hbm, ⟨50, _⟩ => ⟨S1x4096x16x128, .f32⟩
  | .hbm, ⟨51, _⟩ => ⟨S1x4096x2048, .f32⟩
  | .hbm, ⟨52, _⟩ => ⟨S2048x2048, .f32⟩
  | .hbm, ⟨53, _⟩ => ⟨S1x4096x2048, .f32⟩
  | .hbm, ⟨54, _⟩ => ⟨S1x1x2048, .f32⟩
  | .hbm, ⟨55, _⟩ => ⟨S1x4096x2048, .f32⟩
  | .hbm, ⟨56, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.Ideal.Project.lean ====
/- The projection call (custom_call 0): what its body leaves at a grid point, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.UnfoldOut

@[expose] public section

set_option maxRecDepth 16384

noncomputable section

namespace Cert.KernelIdeal.Project

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two offsets of a whole access are zero. -/
theorem offs_zero : (![0, 0] : Fin 2 → Nat) = fun _ => 0 := by decide

/-! ## What one point computes -/

/-- Row `i` of the stacked bias block. -/
abbrev bias0 (b : Vec F S3x256 .f32) : Vec F S1x256 .f32 := View.ld b (Rect.unit (s := S3x256) ![0, 0] S1x256.size inb_S3x256_S1x256_0_0)
abbrev bias1 (b : Vec F S3x256 .f32) : Vec F S1x256 .f32 := View.ld b (Rect.unit (s := S3x256) ![1, 0] S1x256.size inb_S3x256_S1x256_1_0)
abbrev bias2 (b : Vec F S3x256 .f32) : Vec F S1x256 .f32 := View.ld b (Rect.unit (s := S3x256) ![2, 0] S1x256.size inb_S3x256_S1x256_2_0)

/-- The query, key and value blocks of a point, of the rows `x`, the weight blocks and the biases. -/
def qBlk (x : Vec F S2048x2048 .f32) (w : Vec F S256x2048 .f32) (b : Vec F S3x256 .f32) : Vec F S2048x256 .bf16 := k0_pay2 x w (bias0 b)
def kBlk (x : Vec F S2048x2048 .f32) (w : Vec F S256x2048 .f32) (b : Vec F S3x256 .f32) : Vec F S2048x256 .bf16 := k0_pay3 x w (bias1 b)
def vBlk (x : Vec F S2048x2048 .f32) (w : Vec F S256x2048 .f32) (b : Vec F S3x256 .f32) : Vec F S2048x256 .bf16 := k0_pay4 x w (bias2 b)

abbrev rO : Rect S2048x256 := Rect.unit (s := S2048x256) ![0, 0] S2048x256.size inb_S2048x256_S2048x256_0_0
abbrev rX : Rect S2048x2048 := Rect.unit (s := S2048x2048) ![0, 0] S2048x2048.size inb_S2048x2048_S2048x2048_0_0
abbrev rW : Rect S256x2048 := Rect.unit (s := S256x2048) ![0, 0] S256x2048.size inb_S256x2048_S256x2048_0_0

/-- One whole store of a block leaves its payload, on any view. -/
theorem read_store {sp : Space} (v : View sig .tc sp S2048x256 .bf16) (f : v.ty.Contents (Elt F)) (p : Vec F S2048x256 .bf16) :
    v.read (Elt F) (v.writes (Elt F) f [⟨rO, p⟩]) = p :=
  (View.read_writes_eq_canon v f [⟨rO, p⟩] (View.cover_of_tiled [⟨rO, p⟩] S2048x256.size (by rfl))).trans
    (View.canon_unit_zero offs_zero _ p)

/-! ## The body's triple -/

set_option maxHeartbeats 1000000 in
/-- On whole staging memrefs, the inputs' at `x·` and the outputs' at anything, the body ends with the inputs' as they
    were and the outputs' at the point's query, key and value blocks. -/
theorem sound_kernel (c : Dev nD) (E : Set ℕ) (i : grid0.Coords)
    (a2 : Memref sig .tc .vmem S2048x2048 .f32) (h2 : a2.IsWhole) (a3 : Memref sig .tc .vmem S256x2048 .f32) (h3 : a3.IsWhole)
    (a4 : Memref sig .tc .vmem S256x2048 .f32) (h4 : a4.IsWhole) (a5 : Memref sig .tc .vmem S256x2048 .f32) (h5 : a5.IsWhole)
    (a6 : Memref sig .tc .vmem S3x256 .f32) (h6 : a6.IsWhole) (a7 : Memref sig .tc .vmem S2048x256 .bf16) (h7 : a7.IsWhole)
    (a8 : Memref sig .tc .vmem S2048x256 .bf16) (h8 : a8.IsWhole) (a9 : Memref sig .tc .vmem S2048x256 .bf16) (h9 : a9.IsWhole)
    (x0 : Vec F S2048x2048 .f32) (x1 x2 x3 : Vec F S256x2048 .f32) (x4 : Vec F S3x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ d, owns (c : Thread nD τ) a7 fullShare d) ∗ (∃ d, owns (c : Thread nD τ) a8 fullShare d) ∗ (∃ d, owns (c : Thread nD τ) a9 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (qBlk x0 x1 x4) ∗ owns (c : Thread nD τ) a8 fullShare (kBlk x0 x2 x4)
            ∗ owns (c : Thread nD τ) a9 fullShare (vBlk x0 x3 x4)) -∗ K ⟨⟩))
      ⊢ wp frame (wpE (defs₀ (F := F)) Variants.none c none) E (cc0__qkv_kernel i a2 h2 a3 h3 a4 h4 a5 h5 a6 h6 a7 h7 a8 h8 a9 h9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have ex : ∀ {S : Shape} {e : EltTy} (v : View sig .tc .vmem S e) (f : v.ty.Contents (Elt F)) {off : Fin S.rank → Nat}
      (h0 : off = fun _ => 0) (inb : ∀ a, off a + S.size a ≤ S.size a),
      View.ld (v.read (Elt F) f) (Rect.unit off S.size inb) = v.read (Elt F) f := fun v f _ h0 inb => View.ld_unit_zero h0 inb _
  isplitl [H5]
  · iexists _; isplitr
    swap; · iexact H5
    ipureintro
    refine (read_store _ _ _).trans ?_
    rw [View.readAt_eq_ld, View.readAt_eq_ld, ex _ _ offs_zero, ex _ _ offs_zero]; rfl
  isplitl [H6]
  · iexists _; isplitr
    swap; · iexact H6
    ipureintro
    refine (read_store _ _ _).trans ?_
    rw [View.readAt_eq_ld, View.readAt_eq_ld, ex _ _ offs_zero, ex _ _ offs_zero]; rfl
  iexists _; isplitr
  swap; · iexact H7
  ipureintro
  refine (read_store _ _ _).trans ?_
  rw [View.readAt_eq_ld, View.readAt_eq_ld, ex _ _ offs_zero, ex _ _ offs_zero]; rfl

/-! ## The proof data, at the buffer contents `V` the call is entered with -/

variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the call finds them; after a point the inputs' buffers at their blocks, the outputs' at the
    point's results; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => qBlk (iblk V c 0 t) (iblk V c 1 t) (iblk V c 4 t)
    | ⟨6, _⟩ => kBlk (iblk V c 0 t) (iblk V c 2 t) (iblk V c 4 t)
    | ⟨7, _⟩ => vBlk (iblk V c 0 t) (iblk V c 3 t) (iblk V c 4 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What a point leaves in each window's buffer. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = qBlk (iblk V c 0 t) (iblk V c 1 t) (iblk V c 4 t) := by dsimp only [dat]
theorem after_6 (c : Dev nD) (t : Fin cfg0.N) : (dat V c).after 6 t = kBlk (iblk V c 0 t) (iblk V c 2 t) (iblk V c 4 t) := by dsimp only [dat]
theorem after_7 (c : Dev nD) (t : Fin cfg0.N) : (dat V c).after 7 t = vBlk (iblk V c 0 t) (iblk V c 3 t) (iblk V c 4 t) := by dsimp only [dat]

/-- An input window's buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at a point, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body V c t) rfl .rfl fun _ => .rfl

end Cert.KernelIdeal.Project

end
-- ==== Proof.Ideal.AttnBody.lean ====
/- The attention call (custom_call 1): what one grid point computes, and its body's triples. -/
module

public import proofs.«01_k».proof.Proof.Ideal.Project
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one point computes -/

/-- The 256 keys (or values) of sub-block `n`, head `h` of a point's two. -/
abbrev sub (x : Vec F S4096x256 .bf16) (n : Fin 16) (h : Fin 2) : Vec F S256x128 .bf16 :=
  View.ld x (Rect.unit (s := S4096x256) ![256 * n.val, 128 * h.val] S256x128.size (by
    have hn := n.isLt; have hh := h.isLt
    intro a
    match a with
    | ⟨0, _⟩ => exact (by omega : 256 * n.val + 256 ≤ 4096)
    | ⟨1, _⟩ => exact (by omega : 128 * h.val + 128 ≤ 256)))

/-- The context of the two heads of a point, as the printed payloads compose it: of the query block and the sub-blocks
    of keys `k` and values `v`. -/
def ctx (q : Vec F S1024x256 .bf16) (k v : Vec F S4096x256 .bf16) : FVec F S1024x256 .bf16 :=
  k1_pay28
    (k1_pay17 (k1_pay16 (k1_pay5 q)
      (k1_pay13 (k1_pay5 q)
        (k1_pay10 (k1_pay5 q)
          (k1_pay9 (k1_pay5 q) (k1_pay6 q (sub k 0 0) (sub v 0 0) (sub k 1 0) (sub v 1 0)) (k1_pay7 q (sub k 2 0)) (k1_pay8 (sub v 2 0))
            (sub k 3 0) (sub v 3 0) (sub k 4 0) (sub v 4 0) (sub k 5 0) (sub v 5 0))
          (sub k 6 0) (sub v 6 0) (sub k 7 0) (sub v 7 0) (sub k 8 0) (sub v 8 0))
        (k1_pay11 (sub k 9 0)) (k1_pay12 (sub v 9 0)) (constant S1024x256 .f32 0x00000000#32)
        (sub k 10 0) (sub v 10 0) (sub k 11 0) (sub v 11 0))
      (k1_pay14 (k1_pay5 q) (sub k 12 0)) (k1_pay15 (sub v 12 0))
      (sub k 13 0) (sub v 13 0) (sub k 14 0) (sub v 14 0) (sub k 15 0) (sub v 15 0)))
    (k1_pay18 (k1_pay4 q))
    (k1_pay27 (k1_pay18 (k1_pay4 q))
      (k1_pay23 (k1_pay18 (k1_pay4 q))
        (k1_pay20 (k1_pay18 (k1_pay4 q))
          (k1_pay19 (k1_pay4 q) (sub k 0 1) (sub v 0 1) (sub k 1 1) (sub v 1 1) (sub k 2 1) (sub v 2 1))
          (sub k 3 1) (sub v 3 1) (sub k 4 1) (sub v 4 1) (sub k 5 1) (sub v 5 1))
        (k1_pay21 (sub k 6 1)) (k1_pay22 (sub v 6 1)) (sub k 7 1) (sub v 7 1) (sub k 8 1) (sub v 8 1))
      (k1_pay24 (sub v 9 1)) (k1_pay25 (k1_pay18 (k1_pay4 q)) (sub k 9 1)) (k1_pay26 (F := F))
      (sub k 10 1) (sub v 10 1) (sub k 11 1) (sub v 11 1) (sub k 12 1) (sub v 12 1))
    (sub k 13 1) (sub v 13 1) (sub k 14 1) (sub v 14 1) (sub k 15 1) (sub v 15 1)

/-- The accumulator after the first pair of heads: its projected context and the output bias. -/
def accInit (q : Vec F S1024x256 .bf16) (k v : Vec F S4096x256 .bf16) (wo : Vec F S2048x256 .f32) (b : Vec F S1x2048 .f32) : Vec F S1024x2048 .f32 :=
  k1_pay2 (ctx q k v) wo b

/-- The accumulator `s` after a later pair of heads. -/
def accNext (q : Vec F S1024x256 .bf16) (k v : Vec F S4096x256 .bf16) (wo : Vec F S2048x256 .f32) (s : Vec F S1024x2048 .f32) : Vec F S1024x2048 .f32 :=
  k1_pay3 (ctx q k v) wo s

/-! ## The branch conditions -/

/-- The condition of the first branch, from the grid coordinates. -/
abbrev cond0 (i : grid1.Coords) : Prop := (Scalar.cmpi .ne (Scalar.extui (Scalar.cmpi .eq (BitVec.ofNat 32 (i 1).val) 0#32)) 0#32) = 1#1
/-- The condition of the second branch. -/
abbrev cond1 (i : grid1.Coords) : Prop := (Scalar.cmpi .ne (Scalar.extui (Scalar.cmpi .ne (BitVec.ofNat 32 (i 1).val) 0#32)) 0#32) = 1#1
/-- The condition of the third branch. -/
abbrev cond2 (i : grid1.Coords) : Prop := k1_cond3 i = 1#1

/-- The first branch is taken at the first pair of heads. -/
theorem hcond0 : ∀ t : Fin cfg1.N, cond0 (grid1.coords t) ↔ t.val % 8 = 0 :=
  (fun t => by
    have ht : t.val < 32 := Nat.lt_of_lt_of_eq t.isLt N_1
    have e1 : (grid1.coords t 1).val = t.val / 1 % 8 := Pipeline.Grid.coords_val t 1 (by decide) rfl
    simp only [cond0, e1]
    word_cmp
   : ∀ t : Fin grid1.N, cond0 (grid1.coords t) ↔ t.val % 8 = 0)
/-- The second branch is taken at the later ones. -/
theorem hcond1 : ∀ t : Fin cfg1.N, cond1 (grid1.coords t) ↔ 1 ≤ t.val % 8 :=
  (fun t => by
    have ht : t.val < 32 := Nat.lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ 1 ≤ t.val % 8)
/-- The third branch is taken at the last pair. -/
theorem hcond2 : ∀ t : Fin cfg1.N, cond2 (grid1.coords t) ↔ t.val % 8 = 7 :=
  (fun t => by
    have ht : t.val < 32 := Nat.lt_of_lt_of_eq t.isLt N_1
    have e1 : (grid1.coords t 1).val = t.val / 1 % 8 := Pipeline.Grid.coords_val t 1 (by decide) rfl
    simp only [cond2, k1_cond3, e1]
    word_cmp
   : ∀ t : Fin grid1.N, cond2 (grid1.coords t) ↔ t.val % 8 = 7)

/-- The output window is idle at a point that does not store it, and not written back there. -/
theorem idleAt : ∀ t : Fin cfg1.N, t.val % 8 ≠ 7 → cfg1.idle 5 (grid1.coords t) = true := by decide +kernel
theorem noFlush : ∀ t : Fin cfg1.N, t.val % 8 ≠ 7 → (cfg1.win 5).flush t = false := by decide +kernel
theorem liveAt : ∀ t : Fin cfg1.N, t.val % 8 = 7 → cfg1.idle 5 (grid1.coords t) = false := by decide +kernel

/-! ## The body's triples -/

abbrev rQ : Rect S1024x256 := Rect.unit (s := S1024x256) ![0, 0] S1024x256.size inb_S1024x256_S1024x256_0_0
abbrev rA : Rect S1024x2048 := Rect.unit (s := S1024x2048) ![0, 0] S1024x2048.size inb_S1024x2048_S1024x2048_0_0

/-- One whole store of the accumulator (or of the output block) leaves its payload, on any view. -/
theorem read_store {sp : Space} (v : View sig .tc sp S1024x2048 .f32) (f : v.ty.Contents (Elt F)) (p : Vec F S1024x2048 .f32) :
    v.read (Elt F) (v.writes (Elt F) f [⟨rA, p⟩]) = p :=
  (View.read_writes_eq_canon v f [⟨rA, p⟩] (View.cover_of_tiled [⟨rA, p⟩] S1024x2048.size (by rfl))).trans
    (View.canon_unit_zero Project.offs_zero _ p)

/-- A whole load of what a memref holds is what it holds. -/
theorem ld_whole {S : Shape} {e : EltTy} {sp : Space} (v : View sig .tc sp S e) (f : v.ty.Contents (Elt F)) {off : Fin S.rank → Nat}
    (h0 : off = fun _ => 0) (inb : ∀ a, off a + S.size a ≤ S.size a) :
    View.ld (v.read (Elt F) f) (Rect.unit off S.size inb) = v.read (Elt F) f := View.ld_unit_zero h0 inb _

section
variable (c : Dev nD) (i : grid1.Coords)
    (a2 : Memref sig .tc .vmem S1024x256 .bf16) (h2 : a2.IsWhole) (a3 : Memref sig .tc .vmem S4096x256 .bf16) (h3 : a3.IsWhole)
    (a4 : Memref sig .tc .vmem S4096x256 .bf16) (h4 : a4.IsWhole) (a5 : Memref sig .tc .vmem S2048x256 .f32) (h5 : a5.IsWhole)
    (a6 : Memref sig .tc .vmem S1x2048 .f32) (h6 : a6.IsWhole) (a7 : Memref sig .tc .vmem S1024x2048 .f32) (h7 : a7.IsWhole)
    (a8 : Memref sig .tc .vmem S1024x2048 .f32) (h8 : a8.IsWhole)
    (q : Vec F S1024x256 .bf16) (k v : Vec F S4096x256 .bf16) (wo : Vec F S2048x256 .f32) (b : Vec F S1x2048 .f32)

set_option maxHeartbeats 2000000 in
/-- At the first pair of heads, whatever the scratch holds: the scratch ends at `accInit`, everything else as it was. -/
theorem body_first (hc0 : cond0 i) (hc1 : ¬cond1 i) (hc2 : ¬cond2 i) (o : Vec F S1024x2048 .f32) (E : Set ℕ) (K : PUnit → sProp 𝕄) :
    iprop(owns (c : Thread nD τ) a2 fullShare q ∗ owns (c : Thread nD τ) a3 fullShare k ∗ owns (c : Thread nD τ) a4 fullShare v
        ∗ owns (c : Thread nD τ) a5 fullShare wo ∗ owns (c : Thread nD τ) a6 fullShare b ∗ owns (c : Thread nD τ) a7 fullShare o
        ∗ (∃ d, owns (c : Thread nD τ) a8 fullShare d)
        ∗ (iprop(owns (c : Thread nD τ) a2 fullShare q ∗ owns (c : Thread nD τ) a3 fullShare k ∗ owns (c : Thread nD τ) a4 fullShare v
            ∗ owns (c : Thread nD τ) a5 fullShare wo ∗ owns (c : Thread nD τ) a6 fullShare b ∗ owns (c : Thread nD τ) a7 fullShare o
            ∗ owns (c : Thread nD τ) a8 fullShare (accInit q k v wo b)) -∗ K ⟨⟩))
      ⊢ wp frame (wpE (defs₀ (F := F)) Variants.none c none) E (cc1__attn_out_kernel i a2 h2 a3 h3 a4 h4 a5 h5 a6 h6 a7 h7 a8 h8) K := by
  simp only [cc1__attn_out_kernel_eq_skeleton]; unfold cc1__attn_out_kernel_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS⟩, Hk⟩
  subst hf0 hf1 hf2 hf3 hf4 hf5
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (read_store _ _ _).trans ?_
  rw [accInit, ← ld_whole a2.view f0 Project.offs_zero inb_S1024x256_S1024x256_0_0, ← ld_whole a5.view f3 Project.offs_zero inb_S2048x256_S2048x256_0_0,
    ← ld_whole a6.view f4 Project.offs_zero inb_S1x2048_S1x2048_0_0]
  rfl

set_option maxHeartbeats 2000000 in
/-- At a pair of heads neither first nor last, the scratch at `s`: the scratch ends at `accNext … s`, everything else as it was. -/
theorem body_mid (hc0 : ¬cond0 i) (hc1 : cond1 i) (hc2 : ¬cond2 i) (s o : Vec F S1024x2048 .f32) (E : Set ℕ) (K : PUnit → sProp 𝕄) :
    iprop(owns (c : Thread nD τ) a2 fullShare q ∗ owns (c : Thread nD τ) a3 fullShare k ∗ owns (c : Thread nD τ) a4 fullShare v
        ∗ owns (c : Thread nD τ) a5 fullShare wo ∗ owns (c : Thread nD τ) a6 fullShare b ∗ owns (c : Thread nD τ) a7 fullShare o
        ∗ owns (c : Thread nD τ) a8 fullShare s
        ∗ (iprop(owns (c : Thread nD τ) a2 fullShare q ∗ owns (c : Thread nD τ) a3 fullShare k ∗ owns (c : Thread nD τ) a4 fullShare v
            ∗ owns (c : Thread nD τ) a5 fullShare wo ∗ owns (c : Thread nD τ) a6 fullShare b ∗ owns (c : Thread nD τ) a7 fullShare o
            ∗ owns (c : Thread nD τ) a8 fullShare (accNext q k v wo s)) -∗ K ⟨⟩))
      ⊢ wp frame (wpE (defs₀ (F := F)) Variants.none c none) E (cc1__attn_out_kernel i a2 h2 a3 h3 a4 h4 a5 h5 a6 h6 a7 h7 a8 h8) K := by
  simp only [cc1__attn_out_kernel_eq_skeleton]; unfold cc1__attn_out_kernel_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs, HS⟩, Hk⟩
  subst hf0 hf1 hf2 hf3 hf4 hf5 hfs
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (read_store _ _ _).trans ?_
  rw [accNext, ← ld_whole a2.view f0 Project.offs_zero inb_S1024x256_S1024x256_0_0, ← ld_whole a5.view f3 Project.offs_zero inb_S2048x256_S2048x256_0_0,
    ← ld_whole a8.view fs0 Project.offs_zero inb_S1024x2048_S1024x2048_0_0]
  rfl

set_option maxHeartbeats 2000000 in
/-- At the last pair of heads, the scratch at `s`: the scratch and the output block end at `accNext … s`, everything else as it was. -/
theorem body_last (hc0 : ¬cond0 i) (hc1 : cond1 i) (hc2 : cond2 i) (s : Vec F S1024x2048 .f32) (E : Set ℕ) (K : PUnit → sProp 𝕄) :
    iprop(owns (c : Thread nD τ) a2 fullShare q ∗ owns (c : Thread nD τ) a3 fullShare k ∗ owns (c : Thread nD τ) a4 fullShare v
        ∗ owns (c : Thread nD τ) a5 fullShare wo ∗ owns (c : Thread nD τ) a6 fullShare b ∗ (∃ d, owns (c : Thread nD τ) a7 fullShare d)
        ∗ owns (c : Thread nD τ) a8 fullShare s
        ∗ (iprop(owns (c : Thread nD τ) a2 fullShare q ∗ owns (c : Thread nD τ) a3 fullShare k ∗ owns (c : Thread nD τ) a4 fullShare v
            ∗ owns (c : Thread nD τ) a5 fullShare wo ∗ owns (c : Thread nD τ) a6 fullShare b ∗ owns (c : Thread nD τ) a7 fullShare (accNext q k v wo s)
            ∗ owns (c : Thread nD τ) a8 fullShare (accNext q k v wo s)) -∗ K ⟨⟩))
      ⊢ wp frame (wpE (defs₀ (F := F)) Variants.none c none) E (cc1__attn_out_kernel i a2 h2 a3 h3 a4 h4 a5 h5 a6 h6 a7 h7 a8 h8) K := by
  simp only [cc1__attn_out_kernel_eq_skeleton]; unfold cc1__attn_out_kernel_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs, HS⟩, Hk⟩
  subst hf0 hf1 hf2 hf3 hf4 hfs
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store _ _ _).trans ?_
    unfold body_last.sl.v379
    refine (View.readCov_unit_zero _ Project.offs_zero _ _).trans ?_
    rw [accNext, ← ld_whole a2.view f0 Project.offs_zero inb_S1024x256_S1024x256_0_0, ← ld_whole a5.view f3 Project.offs_zero inb_S2048x256_S2048x256_0_0,
      ← ld_whole a8.view fs0 Project.offs_zero inb_S1024x2048_S1024x2048_0_0]
    rfl
  iexists _; isplitr
  swap; · iexact HS
  ipureintro
  refine (read_store _ _ _).trans ?_
  rw [accNext, ← ld_whole a2.view f0 Project.offs_zero inb_S1024x256_S1024x256_0_0, ← ld_whole a5.view f3 Project.offs_zero inb_S2048x256_S2048x256_0_0,
    ← ld_whole a8.view fs0 Project.offs_zero inb_S1024x2048_S1024x2048_0_0]
  rfl

end

end Cert.KernelIdeal.Attn

end
-- ==== Proof.Ideal.AttnRegion.lean ====
/- The attention call's proof data: the accumulator carried from point to point, and the body obligation. -/
module

public import proofs.«01_k».proof.Proof.Ideal.AttnBody

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The proof data, at the buffer contents `V` the call is entered with -/

variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator starts at, at the first pair of heads of point `t`'s rows. -/
def first (c : Dev nD) (t : Fin cfg1.N) : Vec F S1024x2048 .f32 :=
  accInit (iblk V c 0 t) (iblk V c 1 t) (iblk V c 2 t) (iblk V c 3 t) (iblk V c 4 t)

/-- What point `t` makes of the accumulator `s`, at a later pair. -/
def next (c : Dev nD) (t : Fin cfg1.N) (s : Vec F S1024x2048 .f32) : Vec F S1024x2048 .f32 :=
  accNext (iblk V c 0 t) (iblk V c 1 t) (iblk V c 2 t) (iblk V c 3 t) s

/-- The accumulator after point `n`: started anew at each first pair of heads, added to at the others. -/
def acc (c : Dev nD) : (n : ℕ) → n < cfg1.N → Vec F S1024x2048 .f32
  | 0, h => first V c ⟨0, h⟩
  | n + 1, h => if (n + 1) % 8 = 0 then first V c ⟨n + 1, h⟩ else next V c ⟨n + 1, h⟩ (acc c n (Nat.lt_of_succ_lt h))

/-- At a first pair. -/
theorem acc_first (c : Dev nD) (n : ℕ) (h : n < cfg1.N) (h0 : n % 8 = 0) : acc V c n h = first V c ⟨n, h⟩ := by
  cases n with
  | zero => rfl
  | succ n => exact if_pos h0

/-- At a later pair. -/
theorem acc_next (c : Dev nD) (n : ℕ) (h : n < cfg1.N) (h0 : n % 8 ≠ 0) :
    acc V c n h = next V c ⟨n, h⟩ (acc V c (n - 1) (by omega)) := by
  cases n with
  | zero => exact absurd rfl h0
  | succ n => exact if_neg h0

/-- The scratch accumulator, as the body receives it. -/
abbrev scM : Memref sig .tc .vmem S1024x2048 .f32 := Memref.whole cc1_scratch0

/-- A scoped buffer of the core whole, at anything. -/
abbrev anyAt (c : Dev nD) (b : Ref sig .tc) : sProp 𝕄 := iprop(∃ f : Buf (Elt F) ((c : Thread nD τ).loc b), ((c : Thread nD τ).loc b) ↦{fullShare} f)

/-- The projection call's staging buffers, which this call leaves alone. -/
def idleBufs (c : Dev nD) : sProp 𝕄 :=
  iprop(anyAt c cc0_stg0_0 ∗ anyAt c cc0_stg0_1 ∗ anyAt c cc0_stg1_0 ∗ anyAt c cc0_stg1_1 ∗ anyAt c cc0_stg2_0 ∗ anyAt c cc0_stg2_1
    ∗ anyAt c cc0_stg3_0 ∗ anyAt c cc0_stg3_1 ∗ anyAt c cc0_stg4_0 ∗ anyAt c cc0_stg4_1 ∗ anyAt c cc0_stg5_0 ∗ anyAt c cc0_stg5_1
    ∗ anyAt c cc0_stg6_0 ∗ anyAt c cc0_stg6_1 ∗ anyAt c cc0_stg7_0 ∗ anyAt c cc0_stg7_1)

/-- The invariant before point `n`: the accumulator at what the point before left (at anything before the first), the
    idle buffers and the generator register at some state. -/
def Inv (c : Dev nD) : (n : ℕ) → n ≤ cfg1.N → sProp 𝕄
  | 0, _ => iprop((∃ d, owns (c : Thread nD τ) scM fullShare d) ∗ idleBufs c ∗ ∃ r, prngReg c r)
  | n + 1, h => iprop(owns (c : Thread nD τ) scM fullShare (acc V c n h) ∗ idleBufs c ∗ ∃ r, prngReg c r)

theorem Inv_pos (c : Dev nD) (n : ℕ) (h : n ≤ cfg1.N) (hz : n ≠ 0) :
    Inv V c n h = iprop(owns (c : Thread nD τ) scM fullShare (acc V c (n - 1) (by omega)) ∗ idleBufs c ∗ ∃ r, prngReg c r) := by
  cases n with
  | zero => exact absurd rfl hz
  | succ n => rfl

/-- At any point the accumulator is at something. -/
theorem Inv_any (c : Dev nD) (n : ℕ) (h : n ≤ cfg1.N) :
    Inv V c n h ⊢ iprop((∃ d, owns (c : Thread nD τ) scM fullShare d) ∗ idleBufs c ∗ ∃ r, prngReg c r) := by
  cases n with
  | zero => exact .rfl
  | succ n =>
    unfold Inv
    iintro ⟨H, Hr⟩
    isplitl [H]; · iexists _; iexact H
    iexact Hr

/-- The arrays as the call finds them; after a point the inputs' buffers at their blocks, the output's at the
    accumulator; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => acc V c t.val t.isLt
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]

/-- The invariant at a point's start. -/
theorem Inv_castSucc (c : Dev nD) (t : Fin cfg1.N) : (dat V c).Φ t.castSucc = Inv V c t.val (Nat.le_of_lt t.isLt) := by
  dsimp only [dat]; exact Pipeline.Dat.Φ_castSucc (Inv V c) t

/-- What a point leaves in each window's buffer. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = acc V c t.val t.isLt := by dsimp only [dat]

/-- An input window's buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at a point, window by window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- What it returns: the output window may be left as it was at a point that does not store it. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

/-- An input's buffer is left at its block. -/
theorem leaves_0 (c : Dev nD) (t : Fin cfg1.N) : (dat V c).leavesExact 0 t = owns (c : Thread nD τ) (st1_0 t) fullShare (iblk V c 0 t) := by
  rw [show (dat V c).leavesExact 0 t = owns (c : Thread nD τ) (st1_0 t) fullShare ((dat V c).after 0 t) from by
    unfold Dat.leavesExact; rw [show cfg1.idle 0 (grid1.coords t) = false from rfl], after_0]
theorem leaves_1 (c : Dev nD) (t : Fin cfg1.N) : (dat V c).leavesExact 1 t = owns (c : Thread nD τ) (st1_1 t) fullShare (iblk V c 1 t) := by
  rw [show (dat V c).leavesExact 1 t = owns (c : Thread nD τ) (st1_1 t) fullShare ((dat V c).after 1 t) from by
    unfold Dat.leavesExact; rw [show cfg1.idle 1 (grid1.coords t) = false from rfl], after_1]
theorem leaves_2 (c : Dev nD) (t : Fin cfg1.N) : (dat V c).leavesExact 2 t = owns (c : Thread nD τ) (st1_2 t) fullShare (iblk V c 2 t) := by
  rw [show (dat V c).leavesExact 2 t = owns (c : Thread nD τ) (st1_2 t) fullShare ((dat V c).after 2 t) from by
    unfold Dat.leavesExact; rw [show cfg1.idle 2 (grid1.coords t) = false from rfl], after_2]
theorem leaves_3 (c : Dev nD) (t : Fin cfg1.N) : (dat V c).leavesExact 3 t = owns (c : Thread nD τ) (st1_3 t) fullShare (iblk V c 3 t) := by
  rw [show (dat V c).leavesExact 3 t = owns (c : Thread nD τ) (st1_3 t) fullShare ((dat V c).after 3 t) from by
    unfold Dat.leavesExact; rw [show cfg1.idle 3 (grid1.coords t) = false from rfl], after_3]
theorem leaves_4 (c : Dev nD) (t : Fin cfg1.N) : (dat V c).leavesExact 4 t = owns (c : Thread nD τ) (st1_4 t) fullShare (iblk V c 4 t) := by
  rw [show (dat V c).leavesExact 4 t = owns (c : Thread nD τ) (st1_4 t) fullShare ((dat V c).after 4 t) from by
    unfold Dat.leavesExact; rw [show cfg1.idle 4 (grid1.coords t) = false from rfl], after_4]
/-- The output's at the accumulator where it is stored, -/
theorem leaves_5 (c : Dev nD) (t : Fin cfg1.N) (h : t.val % 8 = 7) :
    (dat V c).leavesExact 5 t = owns (c : Thread nD τ) (st1_5 t) fullShare (acc V c t.val t.isLt) := by
  rw [show (dat V c).leavesExact 5 t = owns (c : Thread nD τ) (st1_5 t) fullShare ((dat V c).after 5 t) from by
    unfold Dat.leavesExact; rw [liveAt t h], after_5]

set_option maxHeartbeats 2000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, leaves_0, leaves_1, leaves_2, leaves_3, leaves_4]
  rw [show (dat V c).owesAt () t.succ = (dat V c).owesAt () t.castSucc from rfl]
  rw [show (dat V c).Φ t.succ = iprop(owns (c : Thread nD τ) scM fullShare (acc V c t.val t.isLt) ∗ idleBufs c ∗ ∃ r, prngReg c r) from rfl]
  rw [Inv_castSucc V c t]
  by_cases h0 : t.val % 8 = 0
  · rw [Dat.leavesExact_idle (dat V c) 5 t (idleAt t (by omega)) (noFlush t (by omega)), acc_first V c t.val t.isLt h0]
    iintro ⟨HΦ, Ho, ⟨%d0, H0⟩, ⟨%d1, H1⟩, ⟨%d2, H2⟩, ⟨%d3, H3⟩, ⟨%d4, H4⟩, ⟨%d5, H5⟩⟩
    ihave HΦ' := (Inv_any V c t.val (Nat.le_of_lt t.isLt)) $$ HΦ
    icases HΦ' with ⟨HS, Hr⟩
    iapply (body_first c (grid1.coords t) _ _ _ _ _ _ _ _ _ _ _ _ _ _ (iblk V c 0 t) (iblk V c 1 t) (iblk V c 2 t) (iblk V c 3 t) (iblk V c 4 t)
      ((hcond0 t).mpr h0) (fun h => absurd ((hcond1 t).mp h) (by omega)) (fun h => absurd ((hcond2 t).mp h) (by omega)) _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexists _; iexact H5
  · rw [Inv_pos V c t.val _ (by omega), acc_next V c t.val t.isLt h0]
    by_cases h7 : t.val % 8 = 7
    · rw [leaves_5 V c t h7, acc_next V c t.val t.isLt h0]
      iintro ⟨⟨HS, Hr⟩, Ho, ⟨%d0, H0⟩, ⟨%d1, H1⟩, ⟨%d2, H2⟩, ⟨%d3, H3⟩, ⟨%d4, H4⟩, ⟨%d5, H5⟩⟩
      iapply (body_last c (grid1.coords t) _ _ _ _ _ _ _ _ _ _ _ _ _ _ (iblk V c 0 t) (iblk V c 1 t) (iblk V c 2 t) (iblk V c 3 t) (iblk V c 4 t)
        (fun h => h0 ((hcond0 t).mp h)) ((hcond1 t).mpr (by omega)) ((hcond2 t).mpr h7) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 5 t (idleAt t h7) (noFlush t h7)]
      iintro ⟨⟨HS, Hr⟩, Ho, ⟨%d0, H0⟩, ⟨%d1, H1⟩, ⟨%d2, H2⟩, ⟨%d3, H3⟩, ⟨%d4, H4⟩, ⟨%d5, H5⟩⟩
      iapply (body_mid c (grid1.coords t) _ _ _ _ _ _ _ _ _ _ _ _ _ _ (iblk V c 0 t) (iblk V c 1 t) (iblk V c 2 t) (iblk V c 3 t) (iblk V c 4 t)
        (fun h => h0 ((hcond0 t).mp h)) ((hcond1 t).mpr (by omega)) (fun h => h7 ((hcond2 t).mp h)) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation (c : Dev nD) : BodyObligation (dat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body V c t) rfl .rfl fun _ => .rfl

/-- What the call finds of its scoped buffers is the invariant before the first point, -/
theorem Inv_in (c : Dev nD) :
    iprop((∃ r, prngReg c r) ∗ Pipeline.scopedRest (Ix := Unit) (Name := ℕ) (U := UR sig nD τ) (Lvl := ℕ) spec1 c) ⊢ (dat (F := F) V c).Φ 0 := by
  rw [show (dat V c).Φ 0 = iprop((∃ d, owns (c : Thread nD τ) scM fullShare d) ∗ idleBufs c ∗ ∃ r, prngReg c r) from rfl, scopedRest1_eq]
  unfold idleBufs
  simp only [scM, owns_whole]
  iintro ⟨Hp, H0, H1, H2, H3, H4, H5, H6, H7, H8, H9, H10, H11, H12, H13, H14, H15, HS⟩
  isplitl [HS]; · iexact HS
  isplitr [Hp]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iexact Hp

/-- and after the last point the invariant gives them back. -/
theorem Inv_out (c : Dev nD) :
    (dat (F := F) V c).Φ (Fin.last _) ⊢ iprop((∃ r, prngReg c r) ∗ Pipeline.scopedRest (Ix := Unit) (Name := ℕ) (U := UR sig nD τ) (Lvl := ℕ) spec1 c) := by
  rw [show (dat V c).Φ (Fin.last _) = Inv V c cfg1.N (Nat.le_refl _) from rfl, scopedRest1_eq]
  refine (Inv_any V c _ _).trans ?_
  unfold idleBufs
  simp only [scM, owns_whole]
  iintro ⟨HS, ⟨H0, H1, H2, H3, H4, H5, H6, H7, H8, H9, H10, H11, H12, H13, H14, H15⟩, Hp⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HS

end Cert.KernelIdeal.Attn

end
-- ==== Proof.Ideal.Launch.lean ====
/- The run of the whole program: the buffer contents at each boundary between its items, the two calls as regions over
   them, and what every buffer holds at the end. -/
module

public import proofs.«01_k».proof.Proof.Gen.KernelIdeal.Regions
public import proofs.«01_k».proof.Proof.Ideal.AttnRegion
public import Idealize.ShloMosaic.Lib.Pipeline.RegionsLoop
public import Idealize.ShloMosaic.Lib.Pipeline.FrameSuffix

@[expose] public section

set_option maxRecDepth 16384

noncomputable section

namespace Cert.KernelIdeal.Launch

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary -/

/-- A valuation read at the core's own references. -/
abbrev tcAt (W : Dev nD → Valuation τ sig (Elt F)) : (c : Dev nD) → (b : Ref sig .tc) → Buf (Elt F) ((c : Thread nD τ).loc b) := fun c b => W c b

/-- At launch; before the projection call. -/
abbrev B0 : Dev nD → Valuation τ sig (Elt F) := fun c b => m (c, b)
abbrev B1 : Dev nD → Valuation τ sig (Elt F) := fun c => StableHlo.after hostOps0 (B0 m c)
/-- After the projection call: its arrays at what the pipeline leaves. -/
def B2 (c : Dev nD) : Valuation τ sig (Elt F) :=
  Pipeline.withArrays spec0 c (B1 m c) fun w => (Project.dat (tcAt (B1 m)) c).arrAt w cfg0.N
/-- Before the attention call. -/
abbrev B3 : Dev nD → Valuation τ sig (Elt F) := fun c => StableHlo.after hostOps1 (B2 m c)
/-- After the attention call. -/
def B4 (c : Dev nD) : Valuation τ sig (Elt F) :=
  Pipeline.withArrays spec1 c (B3 m c) fun w => (Attn.dat (tcAt (B3 m)) c).arrAt w cfg1.N
/-- At the end. -/
abbrev B5 : Dev nD → Valuation τ sig (Elt F) := fun c => StableHlo.after hostOps2 (B4 m c)

/-- What each call leaves: its arrays at the pipeline's results, the other buffers as they were. -/
theorem B2_arr (c : Dev nD) (w : Fin cfg0.W) :
    B2 m c (Proc.devRef .tc (Pipeline.arrRef spec0 w)) = (Project.dat (tcAt (B1 m)) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (Attn.dat (tcAt (B3 m)) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb

/-- A buffer that is none of a call's output arrays is left by it as it was. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((Project.dat (tcAt (B1 m)) c).arrAt_in w (h w rfl) _).trans (Project.A_eq (tcAt (B1 m)) c w))
  · exact B2_of_ne m c r fun w e => hw ⟨w, e⟩
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((Attn.dat (tcAt (B3 m)) c).arrAt_in w (h w rfl) _).trans (Attn.A_eq (tcAt (B3 m)) c w))
  · exact B4_of_ne m c r fun w e => hw ⟨w, e⟩
/-- A host stretch leaves the buffers it does not write. -/
theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B5_of (c : Dev nD) (r : Ref sig .tc) (h : r ∉ hostOps2_W) : B5 m c (Proc.devRef .tc r) = B4 m c (Proc.devRef .tc r) :=
  StableHlo.after_of_writes_sub hostOps2 _ hostOps2_writes h

/-- The program's arguments. -/
abbrev args : List (Ref sig .tc) :=
  [main_arg0, main_arg1, main_arg2, main_arg3, main_arg4, main_arg5, main_arg6, main_arg7, main_arg8]
theorem args_in0 : ∀ a ∈ args, ∀ w : Fin cfg0.W, Pipeline.arrRef spec0 w = a → (cfg0.win w).isOut = false := by decide +kernel
theorem args_in1 : ∀ a ∈ args, ∀ w : Fin cfg1.W, Pipeline.arrRef spec1 w = a → (cfg1.win w).isOut = false := by decide +kernel
theorem args_host0 : ∀ a ∈ args, a ∉ hostOps0_W := by decide
theorem args_host1 : ∀ a ∈ args, a ∉ hostOps1_W := by decide
theorem args_host2 : ∀ a ∈ args, a ∉ hostOps2_W := by decide
/-- An argument is never written: it holds at every boundary what it held at launch. -/
theorem B1_args (c : Dev nD) (a : Ref sig .tc) (h : a ∈ args) : B1 m c (Proc.devRef .tc a) = m ((c : Thread nD τ).loc a) :=
  B1_of m c a (args_host0 a h)
theorem B3_args (c : Dev nD) (a : Ref sig .tc) (h : a ∈ args) : B3 m c (Proc.devRef .tc a) = m ((c : Thread nD τ).loc a) :=
  (B3_of m c a (args_host1 a h)).trans ((B2_of m c a (args_in0 a h)).trans (B1_args m c a h))
theorem B5_args (c : Dev nD) (a : Ref sig .tc) (h : a ∈ args) : B5 m c (Proc.devRef .tc a) = m ((c : Thread nD τ).loc a) :=
  (B5_of m c a (args_host2 a h)).trans ((B4_of m c a (args_in1 a h)).trans (B3_args m c a h))

/-! ## The two calls as regions -/

/-- The two pipelines' proof data, each at its call's entry contents. -/
def pdats : (p : Fin 2) → (c : Dev nD) → Dat τ (Elt F) Unit ℕ (UR sig nD τ) ℕ (Pipeline.pin (pcfgs (F := F)) adm p) c
  | ⟨0, _⟩ => fun c => Project.dat (tcAt (B1 m)) c
  | ⟨1, _⟩ => fun c => Attn.dat (tcAt (B3 m)) c

abbrev 𝒱₀ : Variants := Variants.none
abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that is not scoped is among those the run holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The projection call, from the contents `B1` to the contents `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (tcAt (B1 m)) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (tcAt (B1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcAt (B1 m) c) (Project.A_eq (tcAt (B1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcAt (B1 m) c) (tcAt (B2 m) c) ((pdats m 0 c).arrAt · cfg0.N) (fun w => (B2_arr m c w).symm)
      (fun b hb => B2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call, from the contents `B3` to the contents `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (tcAt (B3 m)) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (tcAt (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcAt (B3 m) c) (Attn.A_eq (tcAt (B3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Attn.Inv_in (tcAt (B3 m)) c
    rw [show (pdats m 1 c).Φ 0 = (Attn.dat (tcAt (B3 m)) c).Φ 0 from rfl]
    iintro ⟨Hp, -, Hr⟩
    iapply h
    isplitl [Hp]; · iexact Hp
    iexact Hr
  hout c := by
    rw [Pipeline.ownSems0_none, show (pdats m 1 c).Φ (Fin.last _) = (Attn.dat (tcAt (B3 m)) c).Φ (Fin.last _) from rfl]
    have h := Attn.Inv_out (tcAt (B3 m)) c
    iintro H
    ihave H' := h $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcAt (B3 m) c) (tcAt (B4 m) c) ((pdats m 1 c).arrAt · cfg1.N) (fun w => (B4_arr m c w).symm)
      (fun b hb => B4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
theorem main_run (c : Dev nD) : main (F := F) c = Pipeline.Seg.run (segs m) := (main_chain c).trans (by chain_rfl)

set_option backward.isDefEq.respectTransparency.types false in
/-- From any memory with zero counters the program runs to the end on every core without a fault, every buffer then
    holding what `B5` says and every counter zero again. -/
theorem run (ρ : Dev nD → PrngReg) : θ_run defs (onTc (τ := τ) (main (F := F))) ⟨m, fun _ => 0, ρ⟩ (fun r =>
    (∀ c : Dev nD, ∀ b ∈ Pipeline.ucRefs τ sig, r.2.mem (c, b) = B5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h hz => ⟨h, funext fun g => hz g (.inr (regions_no_unscoped g.2))⟩)

/-- The argument arrays end as they were. -/
theorem args_end {mem : (ℓ : Loc nD τ sig) → Buf (Elt F) ℓ} (c : Dev nD) (h : ∀ b ∈ Pipeline.ucRefs τ sig, mem (c, b) = B5 m c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8) := by
  have e : ∀ a ∈ args, ¬ (Proc.devRef .tc a : DevRef τ sig).isScoped → mem ((c.tc : Thread nD τ).loc a) = m ((c.tc : Thread nD τ).loc a) :=
    fun a ha hs => (h _ (mem_uc a hs)).trans (B5_args m c a ha)
  exact ⟨e _ (by decide) (by decide), e _ (by decide) (by decide), e _ (by decide) (by decide), e _ (by decide) (by decide),
    e _ (by decide) (by decide), e _ (by decide) (by decide), e _ (by decide) (by decide), e _ (by decide) (by decide), e _ (by decide) (by decide)⟩

/-- The frame: the arguments end unchanged and the machine is quiescent. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_end m c (h.1 c), h.2⟩) (run m ρ)

end Cert.KernelIdeal.Launch

end
-- ==== Proof.Head.lean ====
/- Attention as the kernel forms it, on plain index functions. -/
module

public import Idealize.ShloMosaic.Lib.Pointwise

@[expose] public section

noncomputable section

namespace Cert.Attention

open Idealize.ShloMosaic

/-- The weight of a key `k` for a query `q`: two to the power of their inner product. -/
def weight (q k : Fin 128 → EReal) : EReal := Ideal.exp2 (∑ e : Fin 128, q e * k e)

/-- One entry of a head's context: the weighted sum of the values over the sum of the weights. -/
def head (q : Fin 128 → EReal) (k : Fin 4096 → Fin 128 → EReal) (v : Fin 4096 → EReal) : EReal :=
  Ideal.div (∑ j : Fin 4096, weight q (k j) * v j) (∑ j : Fin 4096, weight q (k j) * 1)

/-- Column `e` of the head that column `C` belongs to. -/
def mate (C : Fin 2048) (e : Fin 128) : Fin 2048 := ⟨128 * (C.val / 128) + e.val, by omega⟩

/-- The context at row `R`, column `C`, of the query, key and value arrays. -/
def context (Q K V : Fin 4096 → Fin 2048 → EReal) (R : Fin 4096) (C : Fin 2048) : EReal :=
  head (fun e => Q R (mate C e)) (fun j e => K j (mate C e)) (fun j => V j C)

/-- The projected context at row `R`, column `o`, with its bias. -/
def output (Q K V : Fin 4096 → Fin 2048 → EReal) (W : Fin 2048 → Fin 2048 → EReal) (b : Fin 2048 → EReal) (R : Fin 4096) (o : Fin 2048) : EReal :=
  (∑ C : Fin 2048, context Q K V R C * W o C) + b o

/-- A row times a weight row, with its bias. -/
def linear (X : Fin 4096 → Fin 2048 → EReal) (W : Fin 2048 → Fin 2048 → EReal) (b : Fin 2048 → EReal) (R : Fin 4096) (o : Fin 2048) : EReal :=
  (∑ k : Fin 2048, X R k * W o k) + b o

/-- An array's entries by row and column, a matrix's and a vector's likewise. -/
def rows (x : (⟨3, ![1, 4096, 2048]⟩ : Shape).Idx → EReal) (R : Fin 4096) (k : Fin 2048) : EReal := x (ix3 0 R k)
def mat (w : (⟨2, ![2048, 2048]⟩ : Shape).Idx → EReal) (o k : Fin 2048) : EReal := w (ix2 o k)
def vec (b : (⟨1, ![2048]⟩ : Shape).Idx → EReal) (o : Fin 2048) : EReal := b (ix1 o)

end Cert.Attention
-- ==== Proof.Ideal.CtxValue.lean ====
/- What the attention call's context block is, index by index, at the ideal instance. -/
module

public import proofs.«01_k».proof.Proof.Ideal.AttnBody
public import proofs.«01_k».proof.Proof.Head
public import Idealize.ShloMosaic.Lib.Pointwise

@[expose] public section

set_option maxRecDepth 16384

noncomputable section

namespace Cert.KernelIdeal.Attn

open Cert.KernelIdeal.Gen
open Idealize.ShloMosaic Idealize.ShloMosaic.TcCoe

section Fold

variable {F : FTy → Type} [FloatOps F] [Named F]

/-- One sub-block's contribution to a head: the exponentials of the scores against its 256 keys, times the values
    beside a block of ones, added to the accumulator. -/
def step (q : FVec F S1024x128 .bf16) (s : FVec F S1024x256 .f32) (k v : Vec F S256x128 .bf16) : FVec F S1024x256 .f32 :=
  addf s (matmul dot_S1024x256_S256x256_S1024x256_1_0_0_1_n_n none
    (exp2 (truncf .bf16 (matmul dot_S1024x128_S256x128_S1024x256_1_1_0_0_n_n none q
      (shapeCast S256x128 k shapeCasts_S256x128_S256x128) (constant S1024x256 .f32 0x00000000#32)) bitsLt_bf16_f32))
    (concatenate S256x256 1 [⟨S256x128, shapeCast S256x128 v shapeCasts_S256x128_S256x128⟩,
      ⟨S256x128, broadcast S256x128 (Scalar.ofBits .bf16 0x3F80#16)⟩] concatenates_S256x128_S256x128_S256x256_d1)
    (constant S1024x256 .f32 0x00000000#32))

/-- The accumulator of a head after `n` sub-blocks. -/
def upTo (q : FVec F S1024x128 .bf16) (k v : ℕ → Vec F S256x128 .bf16) : ℕ → FVec F S1024x256 .f32
  | 0 => broadcast S1024x256 (Scalar.ofBits .f32 0x00000000#32)
  | n + 1 => step q (upTo q k v n) (k n) (v n)

/-- The weighted values over the weights. -/
def ratio (s : FVec F S1024x256 .f32) : FVec F S1024x128 .f32 :=
  divf (extractStridedSlice S1024x128 ![0, 0] s slices_S1024x256_o0_0_S1024x128)
    (extractStridedSlice S1024x128 ![0, 128] s slices_S1024x256_o0_128_S1024x128)

/-- Two heads side by side. -/
def beside (a b : FVec F S1024x128 .bf16) : FVec F S1024x256 .bf16 :=
  concatenate S1024x256 1 [⟨S1024x128, a⟩, ⟨S1024x128, b⟩] concatenates_S1024x128_S1024x128_S1024x256_d1

/-- Sub-block `n` of head `h`, by its number. -/
def subN (x : Vec F S4096x256 .bf16) (h : Fin 2) (n : ℕ) : Vec F S256x128 .bf16 := sub x (Fin.ofNat 16 n) h

/-- The context is the two heads' ratios, each after its sixteen sub-blocks. -/
theorem ctx_fold (q : Vec F S1024x256 .bf16) (k v : Vec F S4096x256 .bf16) :
    ctx q k v = beside
      (truncf .bf16 (ratio (upTo (k1_pay5 q) (subN k 0) (subN v 0) 16)) bitsLt_bf16_f32)
      (truncf .bf16 (ratio (upTo (k1_pay18 (k1_pay4 q)) (subN k 1) (subN v 1) 16)) bitsLt_bf16_f32) := rfl

end Fold
/-! ## At the ideal instance -/

open Cert.Attention (weight head)

/-- The left half of a sub-block's contribution: the weights times the values. -/
theorem step_value (q : FVec Ideal S1024x128 .bf16) (s : FVec Ideal S1024x256 .f32) (k v : FVec Ideal S256x128 .bf16)
    (r : Fin 1024) (d : Fin 128) :
    step (F := Ideal) q s k v (ix2 r ⟨d.val, by omega⟩)
      = s (ix2 r ⟨d.val, by omega⟩) + ∑ j : Fin 256, weight (fun e => q (ix2 r e)) (fun e => k (ix2 j e)) * v (ix2 j d) := by
  pointwise [step, weight]
  rfl

/-- The right half: the weights, times one. -/
theorem step_weight (q : FVec Ideal S1024x128 .bf16) (s : FVec Ideal S1024x256 .f32) (k v : FVec Ideal S256x128 .bf16)
    (r : Fin 1024) (d : Fin 128) :
    step (F := Ideal) q s k v (ix2 r ⟨128 + d.val, by omega⟩)
      = s (ix2 r ⟨128 + d.val, by omega⟩) + ∑ j : Fin 256, weight (fun e => q (ix2 r e)) (fun e => k (ix2 j e)) * 1 := by
  pointwise [step, weight]
  rfl

/-- After `n` sub-blocks the left half holds the weighted sum of their values. -/
theorem upTo_value (q : FVec Ideal S1024x128 .bf16) (k v : ℕ → FVec Ideal S256x128 .bf16) (r : Fin 1024) (d : Fin 128) (n : ℕ) :
    upTo (F := Ideal) q k v n (ix2 r ⟨d.val, by omega⟩)
      = ∑ i ∈ Finset.range n, ∑ j : Fin 256, weight (fun e => q (ix2 r e)) (fun e => k i (ix2 j e)) * v i (ix2 j d) := by
  induction n with
  | zero => pointwise [upTo]; rfl
  | succ n ih => rw [Finset.sum_range_succ, ← ih]; exact step_value q _ (k n) (v n) r d

/-- After `n` sub-blocks the right half holds the sum of their weights. -/
theorem upTo_weight (q : FVec Ideal S1024x128 .bf16) (k v : ℕ → FVec Ideal S256x128 .bf16) (r : Fin 1024) (d : Fin 128) (n : ℕ) :
    upTo (F := Ideal) q k v n (ix2 r ⟨128 + d.val, by omega⟩)
      = ∑ i ∈ Finset.range n, ∑ j : Fin 256, weight (fun e => q (ix2 r e)) (fun e => k i (ix2 j e)) * 1 := by
  induction n with
  | zero => pointwise [upTo]; rfl
  | succ n ih => rw [Finset.sum_range_succ, ← ih]; exact step_weight q _ (k n) (v n) r d

/-- An entry of a sub-block is the block's, at the sub-block's offset. -/
theorem subN_at (x : FVec Ideal S4096x256 .bf16) (h : Fin 2) (i : Fin 16) (j : Fin 256) (e : Fin 128) :
    subN (F := Ideal) x h i.val (ix2 j e) = x (ix2 ⟨i.val * 256 + j.val, by omega⟩ ⟨128 * h.val + e.val, by omega⟩) := by
  have hi : Fin.ofNat 16 i.val = i := Fin.ofNat_val_eq_self i
  rw [subN, hi]
  pointwise [sub]
  simp only [Nat.mul_comm 256]

/-- The ratio of a head's accumulated halves. -/
theorem ratio_at (q : FVec Ideal S1024x128 .bf16) (k v : FVec Ideal S4096x256 .bf16) (h : Fin 2) (r : Fin 1024) (d : Fin 128) :
    ratio (F := Ideal) (upTo q (subN k h) (subN v h) 16) (ix2 r d)
      = head (fun e => q (ix2 r e)) (fun j e => k (ix2 j ⟨128 * h.val + e.val, by omega⟩)) (fun j => v (ix2 j ⟨128 * h.val + d.val, by omega⟩)) := by
  have e1 : ratio (F := Ideal) (upTo q (subN k h) (subN v h) 16) (ix2 r d)
      = Ideal.div (upTo (F := Ideal) q (subN k h) (subN v h) 16 (ix2 r ⟨d.val, by omega⟩))
          (upTo (F := Ideal) q (subN k h) (subN v h) 16 (ix2 r ⟨128 + d.val, by omega⟩)) := by
    pointwise [ratio]
  rw [e1, upTo_value, upTo_weight, head, Fin.sum_univ_tiles 16 256 rfl, Fin.sum_univ_tiles 16 256 rfl,
    Finset.sum_range, Finset.sum_range]
  simp only [subN_at]

/-- An entry of the context block: head `h` of the point's two, column `d`. -/
theorem ctx_at (q : FVec Ideal S1024x256 .bf16) (k v : FVec Ideal S4096x256 .bf16) (r : Fin 1024) (h : Fin 2) (d : Fin 128) :
    ctx (F := Ideal) q k v (ix2 r ⟨128 * h.val + d.val, by omega⟩)
      = head (fun e => q (ix2 r ⟨128 * h.val + e.val, by omega⟩)) (fun j e => k (ix2 j ⟨128 * h.val + e.val, by omega⟩))
          (fun j => v (ix2 j ⟨128 * h.val + d.val, by omega⟩)) := by
  rw [ctx_fold]
  have e0 : ∀ e : Fin 128, k1_pay5 (F := Ideal) q (ix2 r e) = q (ix2 r ⟨e.val, by omega⟩) := fun e => by pointwise [k1_pay5, k1_pay4]
  have e1 : ∀ e : Fin 128, k1_pay18 (F := Ideal) (k1_pay4 q) (ix2 r e) = q (ix2 r ⟨128 + e.val, by omega⟩) := fun e => by
    pointwise [k1_pay18, k1_pay4]
  match h with
  | 0 =>
    have e2 : beside (F := Ideal) (truncf .bf16 (ratio (upTo (k1_pay5 q) (subN k 0) (subN v 0) 16)) bitsLt_bf16_f32)
        (truncf .bf16 (ratio (upTo (k1_pay18 (k1_pay4 q)) (subN k 1) (subN v 1) 16)) bitsLt_bf16_f32)
        (ix2 r ⟨d.val, by omega⟩) = ratio (F := Ideal) (upTo (k1_pay5 q) (subN k 0) (subN v 0) 16) (ix2 r d) := by
      pointwise [beside]
    have e3 := ratio_at (k1_pay5 (F := Ideal) q) k v 0 r d
    simp only [e0, Fin.val_zero, Nat.mul_zero, Nat.zero_add] at e3 ⊢
    exact e2.trans e3
  | 1 =>
    have e2 : beside (F := Ideal) (truncf .bf16 (ratio (upTo (k1_pay5 q) (subN k 0) (subN v 0) 16)) bitsLt_bf16_f32)
        (truncf .bf16 (ratio (upTo (k1_pay18 (k1_pay4 q)) (subN k 1) (subN v 1) 16)) bitsLt_bf16_f32)
        (ix2 r ⟨128 + d.val, by omega⟩) = ratio (F := Ideal) (upTo (k1_pay18 (k1_pay4 q)) (subN k 1) (subN v 1) 16) (ix2 r d) := by
      pointwise [beside]
    have e3 := ratio_at (k1_pay18 (F := Ideal) (k1_pay4 q)) k v 1 r d
    simp only [e1, Fin.val_one, Nat.mul_one] at e3 ⊢
    exact e2.trans e3

end Cert.KernelIdeal.Attn
-- ==== Proof.Ideal.AttnValue.lean ====
/- What the attention call leaves in its result array, at the ideal instance. -/
module

public import proofs.«01_k».proof.Proof.Ideal.AttnRegion
public import proofs.«01_k».proof.Proof.Ideal.CtxValue
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe
open Idealize.ShloMosaic.Pipeline (Dat)
open Cert.Attention (weight head mate context output)

/-- The block indices of the windows at a point: the row block is `t / 8`, the pair of heads `t % 8`. -/
theorem idx : ∀ t : Fin cfg1.N, win1_0.index t = ![t.val / 8, t.val % 8] ∧ win1_1.index t = ![0, t.val % 8]
    ∧ win1_2.index t = ![0, t.val % 8] ∧ win1_3.index t = ![0, t.val % 8] ∧ win1_4.index t = ![0, 0] ∧ win1_5.index t = ![t.val / 8, 0] :=
  (by decide +kernel : ∀ t : Fin grid1.N, _)

/-- There are 32 points. -/
theorem t_lt (t : Fin cfg1.N) : t.val < 32 := Nat.lt_of_lt_of_eq t.isLt N_1

variable (V : (c : Dev nD) → (b : Ref sig .tc) → Buf (Elt Ideal) ((c : Thread nD τ).loc b))

/-- The arrays the call reads, by row and column. -/
def arrQ (c : Dev nD) (R : Fin 4096) (C : Fin 2048) : EReal := (show FVec Ideal S4096x2048 .bf16 from V c main_v5_0) (ix2 R C)
def arrK (c : Dev nD) (R : Fin 4096) (C : Fin 2048) : EReal := (show FVec Ideal S4096x2048 .bf16 from V c main_v5_1) (ix2 R C)
def arrV (c : Dev nD) (R : Fin 4096) (C : Fin 2048) : EReal := (show FVec Ideal S4096x2048 .bf16 from V c main_v5_2) (ix2 R C)
def arrW (c : Dev nD) (R : Fin 2048) (C : Fin 2048) : EReal := (show FVec Ideal S2048x2048 .f32 from V c main_arg7) (ix2 R C)
def arrB (c : Dev nD) (C : Fin 2048) : EReal := (show FVec Ideal S1x2048 .f32 from V c main_v6) (ix2 0 C)

/-- The blocks of a point, read in the arrays. -/
theorem blkQ (c : Dev nD) (t : Fin cfg1.N) (r : Fin 1024) (e : Fin 256) :
    (show FVec Ideal S1024x256 .bf16 from iblk V c 0 t) (ix2 r e)
      = arrQ V c ⟨1024 * (t.val / 8) + r.val, by have := t_lt t; omega⟩ ⟨256 * (t.val % 8) + e.val, by omega⟩ := by
  blk_ext! [iblk, arrQ, idx t]
theorem blkK (c : Dev nD) (t : Fin cfg1.N) (j : Fin 4096) (e : Fin 256) :
    (show FVec Ideal S4096x256 .bf16 from iblk V c 1 t) (ix2 j e) = arrK V c j ⟨256 * (t.val % 8) + e.val, by omega⟩ := by
  blk_ext! [iblk, arrK, idx t]
theorem blkV (c : Dev nD) (t : Fin cfg1.N) (j : Fin 4096) (e : Fin 256) :
    (show FVec Ideal S4096x256 .bf16 from iblk V c 2 t) (ix2 j e) = arrV V c j ⟨256 * (t.val % 8) + e.val, by omega⟩ := by
  blk_ext! [iblk, arrV, idx t]
theorem blkW (c : Dev nD) (t : Fin cfg1.N) (o : Fin 2048) (e : Fin 256) :
    (show FVec Ideal S2048x256 .f32 from iblk V c 3 t) (ix2 o e) = arrW V c o ⟨256 * (t.val % 8) + e.val, by omega⟩ := by
  blk_ext! [iblk, arrW, idx t]
theorem blkB (c : Dev nD) (t : Fin cfg1.N) (o : Fin 2048) :
    (show FVec Ideal S1x2048 .f32 from iblk V c 4 t) (ix2 0 o) = arrB V c o := by
  blk_ext! [iblk, arrB, idx t]

/-- The projected context of a point, without the bias, at row `r` and column `o` of its block. -/
def part (c : Dev nD) (t : Fin cfg1.N) (r : Fin 1024) (o : Fin 2048) : EReal :=
  ∑ e : Fin 256, context (arrQ V c) (arrK V c) (arrV V c) ⟨1024 * (t.val / 8) + r.val, by have := t_lt t; omega⟩ ⟨256 * (t.val % 8) + e.val, by omega⟩
    * arrW V c o ⟨256 * (t.val % 8) + e.val, by omega⟩

/-- The context block of a point is the context of the arrays. -/
theorem ctx_blk (c : Dev nD) (t : Fin cfg1.N) (r : Fin 1024) (e : Fin 256) :
    ctx (F := Ideal) (iblk V c 0 t) (iblk V c 1 t) (iblk V c 2 t) (ix2 r e)
      = context (arrQ V c) (arrK V c) (arrV V c) ⟨1024 * (t.val / 8) + r.val, by have := t_lt t; omega⟩ ⟨256 * (t.val % 8) + e.val, by omega⟩ := by
  have he : e = ⟨128 * (⟨e.val / 128, by omega⟩ : Fin 2).val + (⟨e.val % 128, by omega⟩ : Fin 128).val, by simp only; omega⟩ :=
    Fin.ext (by simp only; omega)
  have h := ctx_at (iblk V c 0 t) (iblk V c 1 t) (iblk V c 2 t) r ⟨e.val / 128, by omega⟩ ⟨e.val % 128, by omega⟩
  have hm : ∀ f : Fin 128, mate ⟨256 * (t.val % 8) + e.val, by omega⟩ f = ⟨256 * (t.val % 8) + (128 * (e.val / 128) + f.val), by omega⟩ :=
    fun f => Fin.ext (by simp only [mate]; omega)
  refine ((congrArg (fun z => ctx (F := Ideal) (iblk V c 0 t) (iblk V c 1 t) (iblk V c 2 t) (ix2 r z)) he).trans h).trans ?_
  unfold context
  congr 1
  · funext f; rw [hm]; exact blkQ V c t r ⟨128 * (e.val / 128) + f.val, by omega⟩
  · funext j f; rw [hm]; exact blkK V c t j ⟨128 * (e.val / 128) + f.val, by omega⟩
  · funext j; exact (blkV V c t j _).trans (congrArg (arrV V c j) (Fin.ext (by simp only; omega)))

/-- The product with the output weights, at an index. -/
theorem product_at (x : FVec Ideal S1024x256 .bf16) (w : FVec Ideal S2048x256 .f32) (r : Fin 1024) (o : Fin 2048) :
    k1_pay1 (F := Ideal) x w (ix2 r o) = ∑ e : Fin 256, x (ix2 r e) * w (ix2 o e) := by
  pointwise [k1_pay1]

theorem product_blk (c : Dev nD) (t : Fin cfg1.N) (r : Fin 1024) (o : Fin 2048) :
    k1_pay1 (F := Ideal) (ctx (iblk V c 0 t) (iblk V c 1 t) (iblk V c 2 t)) (iblk V c 3 t) (ix2 r o) = part V c t r o :=
  (product_at _ _ r o).trans (Finset.sum_congr rfl fun e _ => congrArg₂ (· * ·) (ctx_blk V c t r e) (blkW V c t o e))

/-- The accumulator started: the bias and the first part. -/
theorem first_at (c : Dev nD) (t : Fin cfg1.N) (r : Fin 1024) (o : Fin 2048) :
    first V c t (ix2 r o) = arrB V c o + part V c t r o := by
  have h : ∀ (x : FVec Ideal S1024x256 .bf16) (w : FVec Ideal S2048x256 .f32) (b : FVec Ideal S1x2048 .f32),
      k1_pay2 (F := Ideal) x w b (ix2 r o) = b (ix2 0 o) + k1_pay1 (F := Ideal) x w (ix2 r o) := fun x w b => by
    pointwise [k1_pay2]
    exact add_comm _ _
  exact (h _ _ _).trans (congrArg₂ (· + ·) (blkB V c t o) (product_blk V c t r o))

/-- The accumulator added to. -/
theorem next_at (c : Dev nD) (t : Fin cfg1.N) (s : FVec Ideal S1024x2048 .f32) (r : Fin 1024) (o : Fin 2048) :
    next V c t s (ix2 r o) = s (ix2 r o) + part V c t r o := by
  have h : ∀ (x : FVec Ideal S1024x256 .bf16) (w : FVec Ideal S2048x256 .f32),
      k1_pay3 (F := Ideal) x w s (ix2 r o) = s (ix2 r o) + k1_pay1 (F := Ideal) x w (ix2 r o) := fun x w => by
    pointwise [k1_pay3]
  exact (h _ _).trans (congrArg (s (ix2 r o) + ·) (product_blk V c t r o))

/-- At the last pair of heads the accumulator is the output of its rows. -/
theorem acc_last (c : Dev nD) (t : Fin cfg1.N) (ht : t.val % 8 = 7) (r : Fin 1024) (o : Fin 2048) :
    acc V c t.val t.isLt (ix2 r o)
      = output (arrQ V c) (arrK V c) (arrV V c) (arrW V c) (arrB V c) ⟨1024 * (t.val / 8) + r.val, by have := t_lt t; omega⟩ o := by
  have h := Pipeline.eq_sum_fin_of_reset_step_of_flush (fun n hn => (acc V c n hn (ix2 r o) : EReal)) 8 (arrB V c o)
    (fun t => part V c t r o)
    (fun t h0 => by rw [acc_first V c t.val t.isLt h0]; exact first_at V c t r o)
    (fun t h0 => by rw [acc_next V c t.val t.isLt h0]; exact next_at V c t _ r o) t ht
  refine h.trans ((add_comm _ _).trans ?_)
  rw [output, Fin.sum_univ_tiles 8 256 rfl]
  refine congrArg (· + arrB V c o) (Finset.sum_congr rfl fun s _ => Finset.sum_congr rfl fun e _ => ?_)
  have hs := s.isLt
  have e1 : (8 * (t.val / 8) + s.val) / 8 = t.val / 8 := by omega
  have e2 : (8 * (t.val / 8) + s.val) % 8 = s.val := by omega
  simp only [e1, e2, Nat.mul_comm 256]

/-- The call's result array. -/
theorem final (c : Dev nD) : (dat V c).arrAt 5 cfg1.N
    = (fun i => output (arrQ V c) (arrK V c) (arrV V c) (arrW V c) (arrB V c) (i 0) (i 1) : FVec Ideal S4096x2048 .f32) := by
  refine (dat V c).arrAt_eq_of_covers 5 _ (by decide +kernel) fun t hf y => ?_
  have ht : t.val % 8 = 7 := (flush1_5 t).mp hf
  blk_simp [idx t]
  rw [after_5]
  refine (congrArg (acc V c t.val t.isLt) (eq_ix2 (n0 := 1024) (n1 := 2048) y)).trans ((acc_last V c t ht (y 0) (y 1)).trans ?_)
  refine congrArg₂ (output (arrQ V c) (arrK V c) (arrV V c) (arrW V c) (arrB V c)) (Fin.ext ?_) (Fin.ext ?_)
  · blk_simp [idx t]
    show 1024 * (t.val / 8) + (y 0).val = t.val / 8 * 1024 + (y 0).val
    rw [Nat.mul_comm]
  · blk_simp [idx t]

end Cert.KernelIdeal.Attn
-- ==== Proof.Consts.lean ====
/- The float constants of the two programs, at the ideal instance. -/
module

public import proofs.«01_k».proof.Proof.Gen.KernelIdeal
public import Idealize.ShloMosaic.Lib.Pointwise

@[expose] public section

noncomputable section

namespace Cert.Consts

open Idealize.ShloMosaic

/-- The kernel's named scale: the binary logarithm of e over the root of 128. -/
def scale : ℝ := (Real.log 2)⁻¹ * (Real.sqrt 128)⁻¹

/-- What the named constant denotes. -/
theorem named_scale : Named.named (F := Ideal) Cert.KernelIdeal.κ "scale" (φ := .f32) 0x3E0293EE#32 = (scale : EReal) :=
  IdealRules.named_const.ideal_named_scalar _ _ _ _ rfl

/-- The head dimension, as the reference writes it. -/
theorem ofBits_128 : Ideal.ofBits .f32 0x43000000#32 = ((128 : ℝ) : EReal) := by
  simp [Ideal.ofBits, Ideal.ieee, -EReal.coe_mul]; norm_num

/-- Positive infinity, the bound of the precondition. -/
theorem ofBits_top : Ideal.ofBits .f32 0x7F800000#32 = ⊤ := by
  simp [Ideal.ofBits, Ideal.ieee]

/-- Negative infinity, where the reference's maximum starts. -/
theorem ofBits_bot : Ideal.ofBits .f32 0xFF800000#32 = ⊥ := by
  simp [Ideal.ofBits, Ideal.ieee]

/-- Zero. -/
theorem ofBits_zero : Ideal.ofBits .f32 0x00000000#32 = 0 := by
  simp [Ideal.ofBits, Ideal.ieee]

end Cert.Consts
-- ==== Proof.Ideal.ProjectValue.lean ====
/- What the projection call leaves in its three result arrays, at the ideal instance. -/
module

public import proofs.«01_k».proof.Proof.Ideal.Project
public import proofs.«01_k».proof.Proof.Head
public import proofs.«01_k».proof.Proof.Consts
public import Idealize.ShloMosaic.Lib.Pipeline.ValueKit

@[expose] public section

set_option maxRecDepth 16384

noncomputable section

namespace Cert.KernelIdeal.Project

open Cert.KernelIdeal.Gen
open Idealize.ShloMosaic Idealize.ShloMosaic.TcCoe
open Idealize.ShloMosaic.Pipeline (Dat)
open Cert.Attention (linear)
open Cert.Consts (scale named_scale)

/-- The block indices of the windows at a point: the row block is `t / 8`, the column block `t % 8`. -/
theorem idx : ∀ t : Fin cfg0.N, win0_0.index t = ![t.val / 8, 0] ∧ win0_1.index t = ![t.val % 8, 0]
    ∧ win0_2.index t = ![t.val % 8, 0] ∧ win0_3.index t = ![t.val % 8, 0] ∧ win0_4.index t = ![0, t.val % 8]
    ∧ win0_5.index t = ![t.val / 8, t.val % 8] ∧ win0_6.index t = ![t.val / 8, t.val % 8] ∧ win0_7.index t = ![t.val / 8, t.val % 8] :=
  (by decide +kernel : ∀ t : Fin grid0.N, _)

/-- There are 16 points. -/
theorem t_lt (t : Fin cfg0.N) : t.val < 16 := Nat.lt_of_lt_of_eq t.isLt N_0

variable (V : (c : Dev nD) → (b : Ref sig .tc) → Buf (Elt Ideal) ((c : Thread nD τ).loc b))

/-- The arrays the call reads, by row and column. -/
def arrX (c : Dev nD) (R : Fin 4096) (C : Fin 2048) : EReal := (show FVec Ideal S4096x2048 .f32 from V c main_v0) (ix2 R C)
def arrWq (c : Dev nD) (R C : Fin 2048) : EReal := (show FVec Ideal S2048x2048 .f32 from V c main_arg1) (ix2 R C)
def arrWk (c : Dev nD) (R C : Fin 2048) : EReal := (show FVec Ideal S2048x2048 .f32 from V c main_arg3) (ix2 R C)
def arrWv (c : Dev nD) (R C : Fin 2048) : EReal := (show FVec Ideal S2048x2048 .f32 from V c main_arg5) (ix2 R C)
def arrB (c : Dev nD) (i : Fin 3) (C : Fin 2048) : EReal := (show FVec Ideal S3x2048 .f32 from V c main_v4) (ix2 i C)

/-- The blocks of a point, read in the arrays. -/
theorem blkX (c : Dev nD) (t : Fin cfg0.N) (r : Fin 2048) (k : Fin 2048) :
    (show FVec Ideal S2048x2048 .f32 from iblk V c 0 t) (ix2 r k) = arrX V c ⟨2048 * (t.val / 8) + r.val, by have := t_lt t; omega⟩ k := by
  blk_ext! [iblk, arrX, idx t]
theorem blkWq (c : Dev nD) (t : Fin cfg0.N) (e : Fin 256) (k : Fin 2048) :
    (show FVec Ideal S256x2048 .f32 from iblk V c 1 t) (ix2 e k) = arrWq V c ⟨256 * (t.val % 8) + e.val, by omega⟩ k := by
  blk_ext! [iblk, arrWq, idx t]
theorem blkWk (c : Dev nD) (t : Fin cfg0.N) (e : Fin 256) (k : Fin 2048) :
    (show FVec Ideal S256x2048 .f32 from iblk V c 2 t) (ix2 e k) = arrWk V c ⟨256 * (t.val % 8) + e.val, by omega⟩ k := by
  blk_ext! [iblk, arrWk, idx t]
theorem blkWv (c : Dev nD) (t : Fin cfg0.N) (e : Fin 256) (k : Fin 2048) :
    (show FVec Ideal S256x2048 .f32 from iblk V c 3 t) (ix2 e k) = arrWv V c ⟨256 * (t.val % 8) + e.val, by omega⟩ k := by
  blk_ext! [iblk, arrWv, idx t]
theorem blkB (c : Dev nD) (t : Fin cfg0.N) (i : Fin 3) (e : Fin 256) :
    (show FVec Ideal S3x256 .f32 from iblk V c 4 t) (ix2 i e) = arrB V c i ⟨256 * (t.val % 8) + e.val, by omega⟩ := by
  blk_ext! [iblk, arrB, idx t]

/-- The three payloads at an index. -/
theorem qBlk_at (x : FVec Ideal S2048x2048 .f32) (w : FVec Ideal S256x2048 .f32) (b : FVec Ideal S3x256 .f32) (r : Fin 2048) (e : Fin 256) :
    qBlk (F := Ideal) x w b (ix2 r e) = ((∑ k : Fin 2048, x (ix2 r k) * w (ix2 e k)) + b (ix2 0 e)) * (scale : EReal) := by
  rw [← named_scale]
  pointwise [qBlk, k0_pay2, k0_pay1, bias0]
theorem kBlk_at (x : FVec Ideal S2048x2048 .f32) (w : FVec Ideal S256x2048 .f32) (b : FVec Ideal S3x256 .f32) (r : Fin 2048) (e : Fin 256) :
    kBlk (F := Ideal) x w b (ix2 r e) = (∑ k : Fin 2048, x (ix2 r k) * w (ix2 e k)) + b (ix2 1 e) := by
  pointwise [kBlk, k0_pay3, k0_pay1, bias1]
theorem vBlk_at (x : FVec Ideal S2048x2048 .f32) (w : FVec Ideal S256x2048 .f32) (b : FVec Ideal S3x256 .f32) (r : Fin 2048) (e : Fin 256) :
    vBlk (F := Ideal) x w b (ix2 r e) = (∑ k : Fin 2048, x (ix2 r k) * w (ix2 e k)) + b (ix2 2 e) := by
  pointwise [vBlk, k0_pay4, k0_pay1, bias2]

/-- Row `r` and column `e` of a point's blocks, in the arrays. -/
def row (t : Fin cfg0.N) (r : Fin 2048) : Fin 4096 := ⟨2048 * (t.val / 8) + r.val, by have := t_lt t; omega⟩
def col (t : Fin cfg0.N) (e : Fin 256) : Fin 2048 := ⟨256 * (t.val % 8) + e.val, by omega⟩

/-- The query array: the projected rows, scaled. -/
theorem final_q (c : Dev nD) : (dat V c).arrAt 5 cfg0.N
    = (fun i => linear (arrX V c) (arrWq V c) (arrB V c 0) (i 0) (i 1) * (scale : EReal) : FVec Ideal S4096x2048 .bf16) := by
  refine (dat V c).arrAt_eq_of_covers 5 _ (by decide +kernel) fun t _ y => ?_
  blk_simp [idx t]
  rw [after_5]
  have eR : (win0_5.blk t).view.emb y 0 = row t (y 0) := Fin.ext (by
    blk_simp [idx t]; show t.val / 8 * 2048 + (y 0).val = 2048 * (t.val / 8) + (y 0).val; rw [Nat.mul_comm])
  have eC : (win0_5.blk t).view.emb y 1 = col t (y 1) := Fin.ext (by
    blk_simp [idx t]; show t.val % 8 * 256 + (y 1).val = 256 * (t.val % 8) + (y 1).val; rw [Nat.mul_comm])
  refine (congrArg (qBlk (F := Ideal) (iblk V c 0 t) (iblk V c 1 t) (iblk V c 4 t)) (eq_ix2 (n0 := 2048) (n1 := 256) y)).trans
    ((qBlk_at _ _ _ (y 0) (y 1)).trans ?_)
  refine Eq.trans ?_ (congrArg₂ (fun R C => linear (arrX V c) (arrWq V c) (arrB V c 0) R C * (scale : EReal)) eR.symm eC.symm)
  exact congrArg (· * (scale : EReal)) (congrArg₂ (· + ·) (Finset.sum_congr rfl fun k _ => congrArg₂ (· * ·) (blkX V c t (y 0) k) (blkWq V c t (y 1) k)) (blkB V c t 0 (y 1)))

/-- The key array: the projected rows. -/
theorem final_k (c : Dev nD) : (dat V c).arrAt 6 cfg0.N
    = (fun i => linear (arrX V c) (arrWk V c) (arrB V c 1) (i 0) (i 1) : FVec Ideal S4096x2048 .bf16) := by
  refine (dat V c).arrAt_eq_of_covers 6 _ (by decide +kernel) fun t _ y => ?_
  blk_simp [idx t]
  rw [after_6]
  have eR : (win0_6.blk t).view.emb y 0 = row t (y 0) := Fin.ext (by
    blk_simp [idx t]; show t.val / 8 * 2048 + (y 0).val = 2048 * (t.val / 8) + (y 0).val; rw [Nat.mul_comm])
  have eC : (win0_6.blk t).view.emb y 1 = col t (y 1) := Fin.ext (by
    blk_simp [idx t]; show t.val % 8 * 256 + (y 1).val = 256 * (t.val % 8) + (y 1).val; rw [Nat.mul_comm])
  refine (congrArg (kBlk (F := Ideal) (iblk V c 0 t) (iblk V c 2 t) (iblk V c 4 t)) (eq_ix2 (n0 := 2048) (n1 := 256) y)).trans
    ((kBlk_at _ _ _ (y 0) (y 1)).trans ?_)
  refine Eq.trans ?_ (congrArg₂ (fun R C => linear (arrX V c) (arrWk V c) (arrB V c 1) R C) eR.symm eC.symm)
  exact (congrArg₂ (· + ·) (Finset.sum_congr rfl fun k _ => congrArg₂ (· * ·) (blkX V c t (y 0) k) (blkWk V c t (y 1) k)) (blkB V c t 1 (y 1)))

/-- The value array: the projected rows. -/
theorem final_v (c : Dev nD) : (dat V c).arrAt 7 cfg0.N
    = (fun i => linear (arrX V c) (arrWv V c) (arrB V c 2) (i 0) (i 1) : FVec Ideal S4096x2048 .bf16) := by
  refine (dat V c).arrAt_eq_of_covers 7 _ (by decide +kernel) fun t _ y => ?_
  blk_simp [idx t]
  rw [after_7]
  have eR : (win0_7.blk t).view.emb y 0 = row t (y 0) := Fin.ext (by
    blk_simp [idx t]; show t.val / 8 * 2048 + (y 0).val = 2048 * (t.val / 8) + (y 0).val; rw [Nat.mul_comm])
  have eC : (win0_7.blk t).view.emb y 1 = col t (y 1) := Fin.ext (by
    blk_simp [idx t]; show t.val % 8 * 256 + (y 1).val = 256 * (t.val % 8) + (y 1).val; rw [Nat.mul_comm])
  refine (congrArg (vBlk (F := Ideal) (iblk V c 0 t) (iblk V c 3 t) (iblk V c 4 t)) (eq_ix2 (n0 := 2048) (n1 := 256) y)).trans
    ((vBlk_at _ _ _ (y 0) (y 1)).trans ?_)
  refine Eq.trans ?_ (congrArg₂ (fun R C => linear (arrX V c) (arrWv V c) (arrB V c 2) R C) eR.symm eC.symm)
  exact (congrArg₂ (· + ·) (Finset.sum_congr rfl fun k _ => congrArg₂ (· * ·) (blkX V c t (y 0) k) (blkWv V c t (y 1) k)) (blkB V c t 2 (y 1)))

end Cert.KernelIdeal.Project
-- ==== Proof.Ideal.Result.lean ====
/- What the kernel's result buffer holds at the end, of its arguments, at the ideal instance. -/
module

public import proofs.«01_k».proof.Proof.Ideal.Launch
public import proofs.«01_k».proof.Proof.Ideal.AttnValue
public import proofs.«01_k».proof.Proof.Ideal.ProjectValue

@[expose] public section

set_option maxRecDepth 16384

noncomputable section

namespace Cert.KernelIdeal.Launch

open Cert.KernelIdeal.Gen
open Idealize.ShloMosaic Idealize.ShloMosaic.TcCoe
open Idealize.SL Idealize.SL.Sem
open Cert.Attention (output linear rows mat vec)
open Cert.Consts (scale)

variable (m : (ℓ : Loc nD τ sig) → Buf (Elt Ideal) ℓ)

/-! ## The host operations at an index -/

theorem reshape_in (x : FVec Ideal S1x4096x2048 .f32) (R : Fin 4096) (k : Fin 2048) :
    shapeCast S4096x2048 x shapeCasts_S1x4096x2048_S4096x2048 (ix2 R k) = x (ix3 0 R k) := by
  pointwise
theorem reshape_out (x : FVec Ideal S4096x2048 .f32) (R : Fin 4096) (o : Fin 2048) :
    shapeCast S1x4096x2048 x shapeCasts_S4096x2048_S1x4096x2048 (ix3 0 R o) = x (ix2 R o) := by
  pointwise
theorem reshape_bias (b : FVec Ideal S2048 .f32) (o : Fin 2048) :
    shapeCast S1x2048 b shapeCasts_S2048_S1x2048 (ix2 0 o) = b (ix1 o) := by
  pointwise
/-- Three biases stacked. -/
def stacked (a b d : FVec Ideal S2048 .f32) : FVec Ideal S3x2048 .f32 :=
  concatenate S3x2048 0
    [⟨S1x2048, broadcastInDim S1x2048 ![1] bcast_S2048_S1x2048_1 a⟩, ⟨S1x2048, broadcastInDim S1x2048 ![1] bcast_S2048_S1x2048_1 b⟩,
     ⟨S1x2048, broadcastInDim S1x2048 ![1] bcast_S2048_S1x2048_1 d⟩] concatenates_S1x2048_S1x2048_S1x2048_S3x2048_d0
theorem stacked_at (a b d : FVec Ideal S2048 .f32) (o : Fin 2048) :
    stacked a b d (ix2 0 o) = a (ix1 o) ∧ stacked a b d (ix2 1 o) = b (ix1 o) ∧ stacked a b d (ix2 2 o) = d (ix1 o) := by
  refine ⟨?_, ?_, ?_⟩ <;> pointwise [stacked] <;> rfl

/-! ## What the host operations leave -/

/-- The rows the projection call reads. -/
theorem host_x (c : Dev nD) : tcAt (B1 m) c main_v0
    = (shapeCast S4096x2048 (m ((c : Thread nD τ).loc main_arg0) : FVec Ideal S1x4096x2048 .f32) shapeCasts_S1x4096x2048_S4096x2048 : FVec Ideal S4096x2048 .f32) := by
  show B1 m c (Proc.devRef .tc main_v0) = _
  unfold B1 hostOps0
  after_results
  rfl
/-- The stacked biases it reads. -/
theorem host_b (c : Dev nD) : tcAt (B1 m) c main_v4
    = stacked (m ((c : Thread nD τ).loc main_arg2)) (m ((c : Thread nD τ).loc main_arg4)) (m ((c : Thread nD τ).loc main_arg6)) := by
  show B1 m c (Proc.devRef .tc main_v4) = _
  unfold B1 hostOps0
  after_results
  refine StableHlo.concatenate_congr _ _ (congrArg₂ List.cons (congrArg (Sigma.mk S1x2048) ?_)
    (congrArg₂ List.cons (congrArg (Sigma.mk S1x2048) ?_) (congrArg₂ List.cons (congrArg (Sigma.mk S1x2048) ?_) rfl))) _ _
  · change HloOp.result _ _ (Proc.devRef .tc main_v1) = _
    after_results
  · change HloOp.result _ _ (Proc.devRef .tc main_v2) = _
    after_results
  · change HloOp.result _ _ (Proc.devRef .tc main_v3) = _
    after_results
/-- The output bias, as a row. -/
theorem host_bo (c : Dev nD) : tcAt (B3 m) c main_v6
    = (shapeCast S1x2048 (m ((c : Thread nD τ).loc main_arg8) : FVec Ideal S2048 .f32) shapeCasts_S2048_S1x2048 : FVec Ideal S1x2048 .f32) := by
  have h : B2 m c (Proc.devRef .tc main_arg8) = m ((c : Thread nD τ).loc main_arg8) :=
    (B2_of m c main_arg8 (by decide)).trans (B1_of m c main_arg8 (by decide))
  show B3 m c (Proc.devRef .tc main_v6) = _
  unfold B3 hostOps1
  after_results
  rw [h]
  rfl
/-- The result buffer is the attention call's result array. -/
theorem host_out (c : Dev nD) : tcAt (B5 m) c main_v8
    = (shapeCast S1x4096x2048 (tcAt (B4 m) c main_v7 : FVec Ideal S4096x2048 .f32) shapeCasts_S4096x2048_S1x4096x2048 : FVec Ideal S1x4096x2048 .f32) := by
  show B5 m c (Proc.devRef .tc main_v8) = _
  unfold B5 hostOps2
  after_results
  rfl

/-! ## The arrays of the two calls, of the arguments -/

/-- The arguments, by row and column. -/
abbrev xOf (c : Dev nD) := rows (m ((c : Thread nD τ).loc main_arg0))
abbrev wqOf (c : Dev nD) := mat (m ((c : Thread nD τ).loc main_arg1))
abbrev bqOf (c : Dev nD) := vec (m ((c : Thread nD τ).loc main_arg2))
abbrev wkOf (c : Dev nD) := mat (m ((c : Thread nD τ).loc main_arg3))
abbrev bkOf (c : Dev nD) := vec (m ((c : Thread nD τ).loc main_arg4))
abbrev wvOf (c : Dev nD) := mat (m ((c : Thread nD τ).loc main_arg5))
abbrev bvOf (c : Dev nD) := vec (m ((c : Thread nD τ).loc main_arg6))
abbrev woOf (c : Dev nD) := mat (m ((c : Thread nD τ).loc main_arg7))
abbrev boOf (c : Dev nD) := vec (m ((c : Thread nD τ).loc main_arg8))

theorem arrX_eq (c : Dev nD) : Project.arrX (tcAt (B1 m)) c = xOf m c := by
  funext R k
  unfold Project.arrX xOf rows
  rw [host_x]
  exact reshape_in _ R k
theorem arrWq_eq (c : Dev nD) : Project.arrWq (tcAt (B1 m)) c = wqOf m c := by
  funext R k; exact congrFun (B1_args m c main_arg1 (by decide)) (ix2 R k)
theorem arrWk_eq (c : Dev nD) : Project.arrWk (tcAt (B1 m)) c = wkOf m c := by
  funext R k; exact congrFun (B1_args m c main_arg3 (by decide)) (ix2 R k)
theorem arrWv_eq (c : Dev nD) : Project.arrWv (tcAt (B1 m)) c = wvOf m c := by
  funext R k; exact congrFun (B1_args m c main_arg5 (by decide)) (ix2 R k)
theorem arrB_eq (c : Dev nD) : Project.arrB (tcAt (B1 m)) c 0 = bqOf m c ∧ Project.arrB (tcAt (B1 m)) c 1 = bkOf m c
    ∧ Project.arrB (tcAt (B1 m)) c 2 = bvOf m c := by
  unfold Project.arrB
  rw [host_b]
  exact ⟨funext fun o => (stacked_at _ _ _ o).1, funext fun o => (stacked_at _ _ _ o).2.1, funext fun o => (stacked_at _ _ _ o).2.2⟩

theorem arrQ_eq (c : Dev nD) : Attn.arrQ (tcAt (B3 m)) c = fun R C => linear (xOf m c) (wqOf m c) (bqOf m c) R C * (scale : EReal) := by
  funext R C
  have h : tcAt (B3 m) c main_v5_0 = _ :=
    (B3_of m c main_v5_0 (by decide)).trans ((B2_arr m c 5).trans (Project.final_q (tcAt (B1 m)) c))
  refine (congrFun h (ix2 R C)).trans ?_
  show linear (Project.arrX _ c) (Project.arrWq _ c) (Project.arrB _ c 0) R C * _ = _
  rw [arrX_eq, arrWq_eq, (arrB_eq m c).1]
theorem arrK_eq (c : Dev nD) : Attn.arrK (tcAt (B3 m)) c = linear (xOf m c) (wkOf m c) (bkOf m c) := by
  funext R C
  have h : tcAt (B3 m) c main_v5_1 = _ :=
    (B3_of m c main_v5_1 (by decide)).trans ((B2_arr m c 6).trans (Project.final_k (tcAt (B1 m)) c))
  refine (congrFun h (ix2 R C)).trans ?_
  show linear (Project.arrX _ c) (Project.arrWk _ c) (Project.arrB _ c 1) R C = _
  rw [arrX_eq, arrWk_eq, (arrB_eq m c).2.1]
theorem arrV_eq (c : Dev nD) : Attn.arrV (tcAt (B3 m)) c = linear (xOf m c) (wvOf m c) (bvOf m c) := by
  funext R C
  have h : tcAt (B3 m) c main_v5_2 = _ :=
    (B3_of m c main_v5_2 (by decide)).trans ((B2_arr m c 7).trans (Project.final_v (tcAt (B1 m)) c))
  refine (congrFun h (ix2 R C)).trans ?_
  show linear (Project.arrX _ c) (Project.arrWv _ c) (Project.arrB _ c 2) R C = _
  rw [arrX_eq, arrWv_eq, (arrB_eq m c).2.2]
theorem arrW_eq (c : Dev nD) : Attn.arrW (tcAt (B3 m)) c = woOf m c := by
  funext R k; exact congrFun (B3_args m c main_arg7 (by decide)) (ix2 R k)
theorem arrBo_eq (c : Dev nD) : Attn.arrB (tcAt (B3 m)) c = boOf m c := by
  funext o
  unfold Attn.arrB
  rw [host_bo]
  exact reshape_bias _ o

/-! ## The result -/

/-- The result buffer at row `R`, column `o`: the output projection of the heads' contexts, of the arguments. -/
theorem result_at (c : Dev nD) (R : Fin 4096) (o : Fin 2048) :
    (show FVec Ideal S1x4096x2048 .f32 from tcAt (B5 m) c main_v8) (ix3 0 R o)
      = output (fun R C => linear (xOf m c) (wqOf m c) (bqOf m c) R C * (scale : EReal)) (linear (xOf m c) (wkOf m c) (bkOf m c))
          (linear (xOf m c) (wvOf m c) (bvOf m c)) (woOf m c) (boOf m c) R o := by
  have h : tcAt (B4 m) c main_v7 = _ := (B4_arr m c 5).trans (Attn.final (tcAt (B3 m)) c)
  rw [host_out, h, arrQ_eq, arrK_eq, arrV_eq, arrW_eq, arrBo_eq]
  exact reshape_out _ R o

end Cert.KernelIdeal.Launch
-- ==== Proof.Softmax.lean ====
/- Attention as the reference forms it, and its equality with the kernel's form where queries and keys are real. -/
module

public import proofs.«01_k».proof.Proof.Head
public import proofs.«01_k».proof.Proof.Consts

@[expose] public section

noncomputable section

namespace Cert.Attention

open Idealize.ShloMosaic
open Cert.Consts (scale)

/-! ## The reference's form -/

/-- The score of row `J` for row `R`, in the head of column `C`: their inner product over the root of 128. -/
def score (Q K : Fin 4096 → Fin 2048 → EReal) (R : Fin 4096) (C : Fin 2048) (J : Fin 4096) : EReal :=
  Ideal.div (∑ e : Fin 128, Q R (mate C e) * K J (mate C e)) (Ideal.sqrt ((128 : ℝ) : EReal))

/-- The greatest of the scores. -/
def top (s : Fin 4096 → EReal) : EReal := max ⊥ (Finset.univ.fold max ⊥ s)

/-- The softmax of the scores `s` at `J`. -/
def share (s : Fin 4096 → EReal) (J : Fin 4096) : EReal :=
  Ideal.div (Ideal.exp (s J - top s)) (∑ j : Fin 4096, Ideal.exp (s j - top s))

/-- The context at row `R`, column `C`: the values weighted by the softmax of the scores. -/
def softContext (Q K V : Fin 4096 → Fin 2048 → EReal) (R : Fin 4096) (C : Fin 2048) : EReal :=
  ∑ J : Fin 4096, share (score Q K R C) J * V J C

/-- The projected context at row `R`, column `o`, with its bias. -/
def softOutput (Q K V : Fin 4096 → Fin 2048 → EReal) (W : Fin 2048 → Fin 2048 → EReal) (b : Fin 2048 → EReal) (R : Fin 4096) (o : Fin 2048) : EReal :=
  (∑ C : Fin 2048, softContext Q K V R C * W o C) + b o

/-! ## Real entries -/

/-- `a` is a real number. -/
def IsReal (a : EReal) : Prop := ∃ r : ℝ, a = (r : EReal)

/-- What lies strictly between the infinities is real. -/
theorem isReal_of_lt {a : EReal} (h : ⊥ < a) (h' : a < ⊤) : IsReal a :=
  ⟨a.toReal, (EReal.coe_toReal h'.ne h.ne').symm⟩

/-- A sum of two reals is real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- The sum of a family of reals is the real sum. -/
theorem coe_sum {n : ℕ} (f : Fin n → ℝ) : ∑ i, (f i : EReal) = ((∑ i, f i : ℝ) : EReal) :=
  (map_sum (⟨⟨((↑) : ℝ → EReal), EReal.coe_zero⟩, EReal.coe_add⟩ : ℝ →+ EReal) f Finset.univ).symm

/-- The inner product of two families of reals is the real inner product. -/
theorem coe_dot {n : ℕ} (f g : Fin n → ℝ) : ∑ i, (f i : EReal) * (g i : EReal) = ((∑ i, f i * g i : ℝ) : EReal) := by
  rw [← coe_sum]; exact Finset.sum_congr rfl fun i _ => (EReal.coe_mul _ _).symm

/-- A linear layer of real arrays is real. -/
theorem linear_real {X : Fin 4096 → Fin 2048 → EReal} {W : Fin 2048 → Fin 2048 → EReal} {b : Fin 2048 → EReal}
    (hX : ∀ R k, IsReal (X R k)) (hW : ∀ o k, IsReal (W o k)) (hb : ∀ o, IsReal (b o)) (R : Fin 4096) (o : Fin 2048) :
    IsReal (linear X W b R o) := by
  choose x hx using hX
  choose w hw using hW
  refine IsReal.add ?_ (hb o)
  simp only [hx, hw]
  exact ⟨_, coe_dot _ _⟩

/-- A nonnegative real factor goes into a sum of extended reals. -/
theorem sum_mul_coe {n : ℕ} (f : Fin n → EReal) {r : ℝ} (hr : 0 ≤ r) : (∑ i, f i) * (r : EReal) = ∑ i, f i * (r : EReal) :=
  map_sum (⟨⟨(· * (r : EReal)), zero_mul _⟩,
    fun y z => EReal.right_distrib_of_nonneg_of_ne_top (by exact_mod_cast hr) (EReal.coe_ne_top r) y z⟩ : EReal →+ EReal) f Finset.univ

/-! ## The two forms agree -/

/-- The greatest of real scores is real. -/
theorem top_real (s : Fin 4096 → ℝ) : IsReal (top fun j => (s j : EReal)) := by
  refine isReal_of_lt (lt_max_of_lt_right ?_) (max_lt bot_lt_top ?_)
  · exact (Finset.lt_fold_max _).2 (.inr ⟨0, Finset.mem_univ _, EReal.bot_lt_coe _⟩)
  · exact (Finset.fold_max_lt _).2 ⟨bot_lt_top, fun j _ => EReal.coe_lt_top _⟩

/-- A common factor of a term and of the sum cancels. -/
theorem cancel (a : ℝ) {L b : ℝ} (hL : L ≠ 0) (hb : b ≠ 0) : a * b * (1 / (L * b)) = a * (1 / L) := by
  field_simp

/-- Exponentials of real scores weigh the values as the softmax does: the maximum cancels. -/
theorem ratio_eq_share (s : Fin 4096 → ℝ) (v : Fin 4096 → EReal) :
    Ideal.div (∑ j, (Real.exp (s j) : EReal) * v j) (∑ j, (Real.exp (s j) : EReal) * 1)
      = ∑ J, share (fun j => (s j : EReal)) J * v J := by
  obtain ⟨M, hM⟩ := top_real s
  have pos : ∀ f : Fin 4096 → ℝ, 0 < ∑ j, Real.exp (f j) := fun f =>
    Finset.sum_pos (fun j _ => Real.exp_pos _) ⟨0, Finset.mem_univ _⟩
  have hL := pos s
  have hZ := pos fun j => s j - M
  have shift : (∑ j, Real.exp (s j - M)) = (∑ j, Real.exp (s j)) * Real.exp (-M) := by
    rw [Finset.sum_mul]; exact Finset.sum_congr rfl fun j _ => by rw [← Real.exp_add, sub_eq_add_neg]
  have hs : ∀ J, share (fun j => (s j : EReal)) J = ((Real.exp (s J) * (1 / ∑ j, Real.exp (s j)) : ℝ) : EReal) := by
    intro J
    unfold share
    simp only [hM, ← EReal.coe_sub, Ideal.exp_coe, coe_sum]
    rw [Ideal.div_coe hZ.ne', ← EReal.coe_mul, shift, sub_eq_add_neg, Real.exp_add]
    exact congrArg _ (cancel _ hL.ne' (Real.exp_pos (-M)).ne')
  simp only [mul_one, coe_sum, hs]
  rw [Ideal.div_coe hL.ne', sum_mul_coe _ (one_div_nonneg.2 hL.le)]
  refine Finset.sum_congr rfl fun j _ => ?_
  rw [EReal.coe_mul, mul_right_comm]

/-- Two to the power of the scaled inner product is the exponential of the inner product over the root of 128. -/
theorem exp2_scale (d : ℝ) : Real.rpow 2 (d * scale) = Real.exp (d * (1 / Real.sqrt 128)) := by
  show (2 : ℝ) ^ (d * scale) = _
  rw [Real.rpow_def_of_pos two_pos]
  congr 1
  have : Real.log 2 ≠ 0 := (Real.log_pos one_lt_two).ne'
  unfold scale
  field_simp

/-- The kernel's context of scaled real queries and real keys is the reference's context, for every value array. -/
theorem context_eq {Q K : Fin 4096 → Fin 2048 → EReal} (hQ : ∀ R C, IsReal (Q R C)) (hK : ∀ R C, IsReal (K R C))
    (V : Fin 4096 → Fin 2048 → EReal) (R : Fin 4096) (C : Fin 2048) :
    context (fun R C => Q R C * (scale : EReal)) K V R C = softContext Q K V R C := by
  choose q hq using hQ
  choose k hk using hK
  have hw : ∀ j, weight (fun e => Q R (mate C e) * (scale : EReal)) (fun e => K j (mate C e))
      = (Real.exp ((∑ e, q R (mate C e) * k j (mate C e)) * (1 / Real.sqrt 128)) : EReal) := by
    intro j
    unfold weight
    simp only [hq, hk, ← EReal.coe_mul, coe_sum, Ideal.exp2_coe]
    rw [← exp2_scale, Finset.sum_mul]
    simp only [mul_right_comm]
  have hs : score Q K R C = fun j => (((∑ e, q R (mate C e) * k j (mate C e)) * (1 / Real.sqrt 128) : ℝ) : EReal) := by
    funext j
    unfold score
    simp only [hq, hk, coe_dot]
    rw [Ideal.sqrt_coe, if_neg (by norm_num), Ideal.div_coe (by positivity), ← EReal.coe_mul]
  unfold context head softContext
  simp only [hw, hs]
  exact ratio_eq_share _ _

/-- So the two outputs agree, for every value array, output weight and output bias. -/
theorem output_eq {Q K : Fin 4096 → Fin 2048 → EReal} (hQ : ∀ R C, IsReal (Q R C)) (hK : ∀ R C, IsReal (K R C))
    (V : Fin 4096 → Fin 2048 → EReal) (W : Fin 2048 → Fin 2048 → EReal) (b : Fin 2048 → EReal) (R : Fin 4096) (o : Fin 2048) :
    output (fun R C => Q R C * (scale : EReal)) K V W b R o = softOutput Q K V W b R o := by
  unfold output softOutput
  simp only [context_eq hQ hK]

end Cert.Attention
-- ==== Proof.Reference.lean ====
/- The reference's result, read at an index. -/
module

public import proofs.«01_k».proof.Proof.Gen.ReferenceIdeal.Run
public import proofs.«01_k».proof.Proof.Gen.ReferenceIdeal.Read
public import proofs.«01_k».proof.Proof.Softmax

@[expose] public section

set_option maxRecDepth 16384

noncomputable section

namespace Cert.ReferenceIdeal.Result

open Cert.ReferenceIdeal Cert.ReferenceIdeal.Gen Cert.ReferenceIdeal.Read
open Idealize.ShloMosaic Idealize.ShloMosaic.TcCoe
open Cert.Attention (linear rows mat vec mate score top share softContext softOutput)

variable (x : FVec Ideal S1x4096x2048 .f32) (wq : FVec Ideal S2048x2048 .f32) (bq : FVec Ideal S2048 .f32)
  (wk : FVec Ideal S2048x2048 .f32) (bk : FVec Ideal S2048 .f32) (wv : FVec Ideal S2048x2048 .f32) (bv : FVec Ideal S2048 .f32)
  (wo : FVec Ideal S2048x2048 .f32) (bo : FVec Ideal S2048 .f32)

/-- Column `e` of head `h`. -/
def col (h : Fin 16) (e : Fin 128) : Fin 2048 := ⟨h.val * 128 + e.val, by omega⟩

/-- The columns of a head are each other's mates. -/
theorem mate_col (h : Fin 16) (d e : Fin 128) : mate (col h d) e = col h e :=
  Fin.ext (by show 128 * ((h.val * 128 + d.val) / 128) + e.val = h.val * 128 + e.val; omega)

/-- The queries, split into heads. -/
theorem query_at (h : Fin 16) (R : Fin 4096) (e : Fin 128) :
    val_main_v6 (F := Ideal) x wq bq (ix4 0 h R e) = linear (rows x) (mat wq) (vec bq) R (col h e) := by
  pointwise [val_main_v6, val_main_v5, val_main_v4, val_main_v3, val_main_v2, val_main_v1, val_main_v0, linear, rows, mat, vec, col]

/-- The keys, split into heads. -/
theorem key_at (h : Fin 16) (R : Fin 4096) (e : Fin 128) :
    val_main_v13 (F := Ideal) x wk bk (ix4 0 h R e) = linear (rows x) (mat wk) (vec bk) R (col h e) := by
  pointwise [val_main_v13, val_main_v12, val_main_v11, val_main_v10, val_main_v9, val_main_v8, val_main_v7, linear, rows, mat, vec, col]

/-- The values, split into heads. -/
theorem value_at (h : Fin 16) (R : Fin 4096) (e : Fin 128) :
    val_main_v20 (F := Ideal) x wv bv (ix4 0 h R e) = linear (rows x) (mat wv) (vec bv) R (col h e) := by
  pointwise [val_main_v20, val_main_v19, val_main_v18, val_main_v17, val_main_v16, val_main_v15, val_main_v14, linear, rows, mat, vec, col]

/-- The scores of a head, at any of the head's columns. -/
theorem score_at (h : Fin 16) (R J : Fin 4096) (d : Fin 128) :
    val_main_v24 (F := Ideal) x wq bq wk bk (ix4 0 h R J)
      = score (linear (rows x) (mat wq) (vec bq)) (linear (rows x) (mat wk) (vec bk)) R (col h d) J := by
  have e : val_main_v24 (F := Ideal) x wq bq wk bk (ix4 0 h R J)
      = Ideal.div (∑ e, val_main_v6 (F := Ideal) x wq bq (ix4 0 h R e) * val_main_v13 (F := Ideal) x wk bk (ix4 0 h J e))
          (Ideal.sqrt (Ideal.ofBits .f32 0x43000000#32)) := by
    pointwise [val_main_v24, val_main_v23, val_main_v22, val_main_cst, val_main_v21]
  rw [e, Cert.Consts.ofBits_128]
  unfold score
  simp only [query_at, key_at, mate_col]

/-- The greatest entry along the last axis. -/
theorem fold_at (y : FVec Ideal S1x16x4096x4096 .f32) (h : Fin 16) (R : Fin 4096) :
    Host.reduce FloatOps.maximumf y (val_main_cst_0 (F := Ideal)) reducesTo_S1x16x4096x4096_S1x16x4096_d3 h_S_ (ix3 0 h R)
      = Finset.univ.fold max (Ideal.ofBits .f32 0xFF800000#32) fun J => y (ix4 0 h R J) := by
  pointwise [val_main_cst_0]

/-- The greatest score of a row. -/
theorem max_at (h : Fin 16) (R : Fin 4096) :
    val_main_v27 (F := Ideal) x wq bq wk bk (ix3 0 h R) = top fun J => val_main_v24 (F := Ideal) x wq bq wk bk (ix4 0 h R J) := by
  have a : val_main_v26 (F := Ideal) (ix3 0 h R) = Ideal.ofBits .f32 0xFF800000#32 := by
    pointwise [val_main_v26, val_main_cst_1]
  rw [val_main_v27_apply, a]
  unfold val_main_v25
  rw [fold_at, Cert.Consts.ofBits_bot]
  rfl

/-- The exponential of a score less the greatest. -/
theorem exp_at (h : Fin 16) (R J : Fin 4096) :
    val_main_v31 (F := Ideal) x wq bq wk bk (ix4 0 h R J)
      = Ideal.exp (val_main_v24 (F := Ideal) x wq bq wk bk (ix4 0 h R J) - val_main_v27 (F := Ideal) x wq bq wk bk (ix3 0 h R)) := by
  pointwise [val_main_v31, val_main_v30, val_main_v29, val_main_v28]

/-- The softmax of a row's scores. -/
theorem share_at (h : Fin 16) (R J : Fin 4096) :
    val_main_v35 (F := Ideal) x wq bq wk bk (ix4 0 h R J)
      = share (fun J => val_main_v24 (F := Ideal) x wq bq wk bk (ix4 0 h R J)) J := by
  have e : val_main_v35 (F := Ideal) x wq bq wk bk (ix4 0 h R J)
      = Ideal.div (val_main_v31 (F := Ideal) x wq bq wk bk (ix4 0 h R J)) (∑ j, val_main_v31 (F := Ideal) x wq bq wk bk (ix4 0 h R j)) := by
    pointwise [val_main_v35, val_main_v34, val_main_v33, val_main_v32, val_main_cst_2]
  rw [e]
  simp only [exp_at, max_at]
  rfl

/-- The context, split into heads. -/
theorem context_at (h : Fin 16) (R : Fin 4096) (d : Fin 128) :
    val_main_v36 (F := Ideal) x wq bq wk bk wv bv (ix4 0 h R d)
      = softContext (linear (rows x) (mat wq) (vec bq)) (linear (rows x) (mat wk) (vec bk)) (linear (rows x) (mat wv) (vec bv)) R (col h d) := by
  have e : val_main_v36 (F := Ideal) x wq bq wk bk wv bv (ix4 0 h R d)
      = ∑ J, val_main_v35 (F := Ideal) x wq bq wk bk (ix4 0 h R J) * val_main_v20 (F := Ideal) x wv bv (ix4 0 h J d) := by
    pointwise [val_main_v36]
  rw [e]
  unfold softContext
  simp only [share_at, value_at, score_at (d := d)]

/-- The result at row `R`, column `o`: the output projection of the softmax contexts. -/
theorem result_at (R : Fin 4096) (o : Fin 2048) :
    val_main_v43 (F := Ideal) x wq bq wk bk wv bv wo bo (ix3 0 R o)
      = softOutput (linear (rows x) (mat wq) (vec bq)) (linear (rows x) (mat wk) (vec bk)) (linear (rows x) (mat wv) (vec bv))
          (mat wo) (vec bo) R o := by
  have e : val_main_v43 (F := Ideal) x wq bq wk bk wv bv wo bo (ix3 0 R o)
      = (∑ C : Fin 2048, val_main_v36 (F := Ideal) x wq bq wk bk wv bv (ix4 0 ⟨C.val / 128, by omega⟩ R ⟨C.val % 128, by omega⟩)
          * mat wo o C) + vec bo o := by
    pointwise [val_main_v43, val_main_v42, val_main_v41, val_main_v40, val_main_v39, val_main_v38, val_main_v37, mat, vec]
  rw [e]
  unfold softOutput
  congr 1
  refine Finset.sum_congr rfl fun C _ => ?_
  rw [context_at, show col ⟨C.val / 128, by omega⟩ ⟨C.val % 128, by omega⟩ = C from Fin.ext (Nat.div_add_mod' C.val 128)]

end Cert.ReferenceIdeal.Result
-- ==== Proof.Finite.lean ====
/- What the precondition says: the arrays that the scores are computed from hold reals. -/
module

public import proofs.«01_k».proof.Defs
public import proofs.«01_k».proof.Proof.Softmax

@[expose] public section

noncomputable section

namespace Cert.Finite

open Idealize.ShloMosaic
open Cert.Attention (IsReal isReal_of_lt)
open Cert.Pre_finite_scores (S_)

/-- The predicate's shape relations hold. -/
theorem facts : Cert.Pre_finite_scores.Facts := ⟨by decide, by decide, by decide⟩

/-- An entry whose absolute value compares below infinity is real. -/
theorem real_of {s : Shape} (hb : S_.BroadcastsInDim s (![] : Fin 0 → Fin s.rank)) {a : FVec Ideal s .f32}
    (h : cmpf .olt (Host.absf a) (broadcastInDim s ![] hb (constant S_ .f32 0x7F800000#32)) = fun _ => 1#1) (i : s.Idx) :
    IsReal (a i) := by
  have e : Ideal.cmp .olt (max (a i) (-(a i))) (Ideal.ofBits .f32 0x7F800000#32) = 1 := congrFun h i
  rw [Cert.Consts.ofBits_top, Ideal.cmp_olt_eq_one, max_lt_iff] at e
  exact isReal_of_lt (by simpa using EReal.neg_lt_neg_iff.2 e.2) e.1

/-- The five arrays of the kernel's scores, the input, the query and the key layers', are real under the precondition. -/
theorem pre_real [Cert.Pre_finite_scores.Facts]
    {m : (ℓ : Loc Cert.KernelIdeal.nD Cert.KernelIdeal.τ Cert.KernelIdeal.sig) → Buf (Elt Ideal) ℓ}
    (h : Cert.Pre_KernelIdeal_finite_scores m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) := by
  obtain ⟨h0, h1, h2, h3, h4⟩ := h c
  exact ⟨real_of _ h0, real_of _ h1, real_of _ h2, real_of _ h3, real_of _ h4⟩

end Cert.Finite
-- ==== Proof.lean ====
/- Everything this certificate claims, from the modules under Proof/. -/
module

public import proofs.«01_k».proof.Defs
public import proofs.«01_k».proof.Proof.Bits.Launch
public import proofs.«01_k».proof.Proof.Ideal.Launch
public import proofs.«01_k».proof.Proof.Ideal.Result
public import proofs.«01_k».proof.Proof.Reference
public import proofs.«01_k».proof.Proof.Finite
public import Idealize.ShloMosaic.Lib.Quiescent

@[expose] public section

noncomputable section

namespace Cert.Proof

open Idealize.ShloMosaic Idealize.ShloMosaic.TcCoe Idealize.SL.Sem
open Cert.Attention (linear_real output_eq)

/-- The kernel runs, its arguments end unchanged, and the machine is quiescent. -/
theorem frame_kernel : Cert.quiescent_Kernel := fun m ρ _ => Cert.Kernel.Launch.frame m ρ

/-- So does the kernel over the extended reals. -/
theorem frame_ideal : Cert.quiescent_KernelIdeal := fun m ρ _ => Cert.KernelIdeal.Launch.frame m ρ

/-- And the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two kernels differ in one constant, the scale: the literal is the binary32 nearest to the real it is named. -/
theorem preserves : Cert.preserves_Kernel_KernelIdeal :=
  IdealRules.named_const.statement Cert.KernelIdeal.κ "scale" .f32 0x3E0293EE#32 _ rfl

/-- An index of the result has only its row and its column to choose. -/
theorem idx_eq (i : (⟨3, ![1, 4096, 2048]⟩ : Shape).Idx) : i = ix3 (0 : Fin 1) (i 1) (i 2) := by
  refine (eq_ix3 (n0 := 1) (n1 := 4096) (n2 := 2048) i).trans ?_
  exact congrArg (fun a : Fin 1 => ix3 a (i 1 : Fin 4096) (i 2 : Fin 2048)) (Subsingleton.elim _ _)

/-- The reference's result is the kernel's, from memories that agree on the arguments, where the precondition holds. -/
theorem result_eq [Cert.Pre_finite_scores.Facts]
    (m : (ℓ : Loc Cert.KernelIdeal.nD Cert.KernelIdeal.τ Cert.KernelIdeal.sig) → Buf (Elt Ideal) ℓ)
    (hpre : Cert.Pre_KernelIdeal_finite_scores m) (c : Dev Cert.KernelIdeal.nD) :
    Cert.ReferenceIdeal.Read.val_main_v43 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
      = Cert.KernelIdeal.Launch.tcAt (Cert.KernelIdeal.Launch.B5 m) c Cert.KernelIdeal.main_v8 := by
  obtain ⟨h0, h1, h2, h3, h4⟩ := Cert.Finite.pre_real hpre c
  have hQ := linear_real (fun R k => h0 (ix3 0 R k)) (fun o k => h1 (ix2 o k)) (fun o => h2 (ix1 o))
  have hK := linear_real (fun R k => h0 (ix3 0 R k)) (fun o k => h3 (ix2 o k)) (fun o => h4 (ix1 o))
  funext i
  rw [idx_eq i]
  exact (Cert.ReferenceIdeal.Result.result_at _ _ _ _ _ _ _ _ _ (i 1) (i 2)).trans
    ((output_eq hQ hK _ _ _ (i 1) (i 2)).symm.trans (Cert.KernelIdeal.Launch.result_at m c (i 1) (i 2)).symm)

/-- Under the precondition the kernel over the extended reals and the reference end with equal results. -/
theorem algebraic [Cert.Pre_finite_scores.Facts] : Cert.algebraic_KernelIdeal_ReferenceIdeal_pre_finite_scores := by
  intro m ρ m' ρ' hpre hagree
  refine ⟨fun c => Cert.KernelIdeal.Launch.tcAt (Cert.KernelIdeal.Launch.B5 m) c Cert.KernelIdeal.main_v8, ?_, ?_⟩
  · refine (θ_run Cert.KernelIdeal.defs _ _).mono (fun r h c => ⟨?_, ?_⟩) (Cert.KernelIdeal.Launch.run m ρ)
    · exact h.1 c _ (Cert.KernelIdeal.Launch.mem_uc Cert.KernelIdeal.main_v8 (by decide))
    · exact Cert.KernelIdeal.Launch.args_end m c (h.1 c)
  · refine (θ_run Cert.ReferenceIdeal.defs _ _).mono (fun r h c => ⟨?_, (h c).2⟩) (Cert.ReferenceIdeal.Value.run (F := Ideal) m' ρ')
    obtain ⟨a0, a1, a2, a3, a4, a5, a6, a7, a8⟩ := hagree c
    refine (h c).1.trans ?_
    rw [Cert.ReferenceIdeal.Read.val_main_v43_eq]
    refine Eq.trans ?_ (result_eq m hpre c)
    rw [a0, a1, a2, a3, a4, a5, a6, a7, a8]

/-- Every claim of the certificate. -/
theorem claim : Cert.Claim := ⟨Cert.Kernel.Gen.facts, Cert.KernelIdeal.Gen.facts, Cert.ReferenceIdeal.Gen.facts, Cert.Finite.facts,
  frame_kernel, frame_ideal, fun m ρ _ => Cert.KernelIdeal.Launch.frame m ρ, frame_reference, fun m ρ _ => frame_reference m ρ trivial,
  preserves, @algebraic Cert.Finite.facts⟩

end Cert.Proof

end
